-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_v1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1000000 : Shape := ⟨2, ![64, 1000000]⟩
abbrev S2 : Shape := ⟨1, ![2]⟩
abbrev S64x1 : Shape := ⟨2, ![64, 1]⟩
abbrev S64x4096 : Shape := ⟨2, ![64, 4096]⟩
abbrev S64 : Shape := ⟨1, ![64]⟩

abbrev nBuf : Space → Nat
  | .hbm => 5
  | .vmem => 8
  | .smem => 0
  | _ => 0

abbrev bufTy : (tb : Table) → Fin (tcTables nBuf tb) → BufTy
  | .hbm, ⟨0, _⟩ => ⟨S64x1000000, .f32⟩
  | .hbm, ⟨1, _⟩ => ⟨S2, .i32⟩
  | .hbm, ⟨2, _⟩ => ⟨S64x1, .i32⟩
  | .hbm, ⟨3, _⟩ => ⟨S64x1000000, .f32⟩
  | .hbm, ⟨4, _⟩ => ⟨S64, .i32⟩
  | .local _ .vmem, ⟨0, _⟩ => ⟨S64x4096, .f32⟩
  | .local _ .vmem, ⟨1, _⟩ => ⟨S64x4096, .f32⟩
  | .local _ .vmem, ⟨2, _⟩ => ⟨S64x1, .i32⟩
  | .local _ .vmem, ⟨3, _⟩ => ⟨S64x1, .f32⟩
  | .local _ .vmem, ⟨4, _⟩ => ⟨S64x1, .i32⟩
  | .local _ .vmem, ⟨5, _⟩ => ⟨S64x1, .i32⟩
  | .local _ .vmem, ⟨6, _⟩ => ⟨S64x4096, .f32⟩
  | .local _ .vmem, ⟨7, _⟩ => ⟨S64x4096, .f32⟩
  | _, _ => ⟨S64x1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem1_1 : DmaSem sig := 5

abbrev nD : Nat := 1
abbrev τ : Topo := Topo.v7x

variable {F : FTy → Type} [FloatOps F]

abbrev grid0 : Pipeline.Grid := ⟨1, ![245], ![false]⟩

def k0_cond2 (i : grid0.Coords) : BitVec 1 :=
  let arg0 : BitVec 32 := BitVec.ofNat 32 (i 0).val
  let c244_i32 : BitVec 32 := 244#32
  let v31 : BitVec 1 := Scalar.cmpi .eq arg0 c244_i32
  let v32 : BitVec 32 := Scalar.extui v31
  let c0_i32_12 : BitVec 32 := 0#32
  let v33 : BitVec 1 := Scalar.cmpi .ne v32 c0_i32_12
  v33

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![245], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 1 → Memref sig .tc .vmem S64x1 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S64x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]
-- ==== ReferenceIdeal.lean ====
abbrev S64x1000000 : Shape := ⟨2, ![64, 1000000]⟩
abbrev S2 : Shape := ⟨1, ![2]⟩
abbrev S_ : Shape := ⟨0, ![]⟩
abbrev S64 : Shape := ⟨1, ![64]⟩
abbrev S64x1 : Shape := ⟨2, ![64, 1]⟩
abbrev S1x1000000 : Shape := ⟨2, ![1, 1000000]⟩

abbrev nBuf : Space → Nat
  | .hbm => 13
  | .vmem => 0
  | .smem => 0
  | _ => 0

abbrev bufTy : (tb : Table) → Fin (tcTables nBuf tb) → BufTy
  | .hbm, ⟨0, _⟩ => ⟨S64x1000000, .f32⟩
  | .hbm, ⟨1, _⟩ => ⟨S2, .i32⟩
  | .hbm, ⟨2, _⟩ => ⟨S64x1000000, .i32⟩
  | .hbm, ⟨3, _⟩ => ⟨S_, .f32⟩
  | .hbm, ⟨4, _⟩ => ⟨S_, .i32⟩
  | .hbm, ⟨5, _⟩ => ⟨S64, .f32⟩
  | .hbm, ⟨6, _⟩ => ⟨S64, .i32⟩
  | .hbm, ⟨7, _⟩ => ⟨S64x1, .i32⟩
  | .hbm, ⟨8, _⟩ => ⟨S1x1000000, .i32⟩
  | .hbm, ⟨9, _⟩ => ⟨S64x1000000, .i32⟩
  | .hbm, ⟨10, _⟩ => ⟨S64x1000000, .i32⟩
  | .hbm, ⟨11, _⟩ => ⟨S64x1000000, .i1⟩
  | .hbm, ⟨12, _⟩ => ⟨S64x1000000, .f32⟩
  | _, _ => ⟨S64x1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_call1_v0 : Ref sig .tc := ⟨.hbm, 7, rfl⟩
abbrev main_call1_v1 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_v1 : Ref sig .tc := ⟨.hbm, 12, rfl⟩

abbrev nD : Nat := 1
abbrev τ : Topo := Topo.v7x

variable {F : FTy → Type} [FloatOps F]
-- ==== Proof.KernelIdeal.Body.lean ====
/-
  The two kernel bodies' runs, with what each leaves in the buffers it is given.

  The scan body (first call) keeps a running maximum and its column per row in two scratch buffers. Its run has three forms: the first grid point starts the two buffers afresh, the last one also
  stores the columns as the result, every other point only updates them. The one-hot body (second call) stores one block of the one-hot matrix. All is for any float operations `F`.
-/
module
public import proofs.«01_k».proof.Proof.Gen.KernelIdeal.Skeleton
public import proofs.«01_k».proof.Proof.Gen.KernelIdeal.Points
public import Idealize.ShloMosaic.Lib.VecWindow
public import Idealize.ShloMosaic.Lib.Tactic

@[expose] public section

noncomputable section

namespace Cert.KernelIdeal.Own

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The test by which the scan body starts its scratch buffers afresh. -/
abbrev isFirst (i : grid0.Coords) : Prop :=
  Scalar.cmpi .ne (Scalar.extui (Scalar.cmpi .eq (BitVec.ofNat 32 (i 0).val) 0#32)) 0#32 = 1#1

/-- The test by which the scan body stores its result. -/
abbrev isLast (i : grid0.Coords) : Prop := k0_cond2 i = 1#1

/-- The first point: whatever the scratch buffers held, they end at the update of the start values by the block `X`; the result's buffer stays as it was. -/
theorem scan_first (c : Dev nD) (i : grid0.Coords) (M1 : Memref sig .tc .vmem S64x4096 .f32) (h1 : M1.IsWhole)
    (M2 : Memref sig .tc .vmem S64x1 .i32) (h2 : M2.IsWhole) (M3 : Memref sig .tc .vmem S64x1 .f32) (h3 : M3.IsWhole)
    (M4 : Memref sig .tc .vmem S64x1 .i32) (h4 : M4.IsWhole) (hf : isFirst i) (hl : ¬ isLast i)
    (X : Vec F S64x4096 .f32) (Y : Vec F S64x1 .i32) (K : PUnit → sProp 𝕄) :
    iprop(owns (c : Thread nD τ) M1 fullShare X ∗ owns (c : Thread nD τ) M2 fullShare Y
        ∗ (∃ v, owns (c : Thread nD τ) M3 fullShare v) ∗ (∃ v, owns (c : Thread nD τ) M4 fullShare v)
        ∗ (iprop(owns (c : Thread nD τ) M1 fullShare X ∗ owns (c : Thread nD τ) M2 fullShare Y
            ∗ owns (c : Thread nD τ) M3 fullShare (k0_pay7 i X k0_pay4)
            ∗ owns (c : Thread nD τ) M4 fullShare (k0_pay8 i X k0_pay4 k0_pay5)) -∗ K ⟨⟩))
      ⊢ wp frame (wpE (defs₀ (F := F)) Variants.none c none) Set.univ
          (cc0__argmax_body i M1 h1 M2 h2 M3 h3 M4 h4) K := by
  simp only [cc0__argmax_body_eq_skeleton]; unfold cc0__argmax_body_skel
  unfold owns
  iintro ⟨⟨%f1, %e1, H1⟩, ⟨%f2, %e2, H2⟩, ⟨%d3, %f3, -, H3⟩, ⟨%d4, %f4, -, H4⟩, Hk⟩
  obtain rfl := h1.eq_unread e1
  sl_exec (disch := first | sl_exact hf | sl_exact hl)
  sl_step
  iapply Hk
  isplitl [H1]
  · iexists _; isplitr; · ipureintro; exact h1.read_unread _
    iexact H1
  isplitl [H2]
  · iexists _; isplitr; · ipureintro; exact e2
    iexact H2
  isplitl [H3]
  · iexists _; isplitr
    swap; · iexact H3
    ipureintro
    unfold scan_first.sl.v20 scan_first.sl.H3_1
    rw [View.read_writes_full, View.readCov_full, View.readAt_full, e1]
  iexists _; isplitr
  swap; · iexact H4
  ipureintro
  unfold scan_first.sl.v20 scan_first.sl.v21 scan_first.sl.H3_1 scan_first.sl.H4_1
  rw [View.read_writes_full, View.readCov_full, View.readCov_full, View.readAt_full, e1]

/-- A point that is neither first nor last: the scratch buffers are updated by the block `X`; the result's buffer stays as it was. -/
theorem scan_middle (c : Dev nD) (i : grid0.Coords) (M1 : Memref sig .tc .vmem S64x4096 .f32) (h1 : M1.IsWhole)
    (M2 : Memref sig .tc .vmem S64x1 .i32) (h2 : M2.IsWhole) (M3 : Memref sig .tc .vmem S64x1 .f32) (h3 : M3.IsWhole)
    (M4 : Memref sig .tc .vmem S64x1 .i32) (h4 : M4.IsWhole) (hf : ¬ isFirst i) (hl : ¬ isLast i)
    (X : Vec F S64x4096 .f32) (Y : Vec F S64x1 .i32) (vm : Vec F S64x1 .f32) (vi : Vec F S64x1 .i32) (K : PUnit → sProp 𝕄) :
    iprop(owns (c : Thread nD τ) M1 fullShare X ∗ owns (c : Thread nD τ) M2 fullShare Y
        ∗ owns (c : Thread nD τ) M3 fullShare vm ∗ owns (c : Thread nD τ) M4 fullShare vi
        ∗ (iprop(owns (c : Thread nD τ) M1 fullShare X ∗ owns (c : Thread nD τ) M2 fullShare Y
            ∗ owns (c : Thread nD τ) M3 fullShare (k0_pay7 i X vm)
            ∗ owns (c : Thread nD τ) M4 fullShare (k0_pay8 i X vm vi)) -∗ K ⟨⟩))
      ⊢ wp frame (wpE (defs₀ (F := F)) Variants.none c none) Set.univ
          (cc0__argmax_body i M1 h1 M2 h2 M3 h3 M4 h4) K := by
  simp only [cc0__argmax_body_eq_skeleton]; unfold cc0__argmax_body_skel
  unfold owns
  iintro ⟨⟨%f1, %e1, H1⟩, ⟨%f2, %e2, H2⟩, ⟨%f3, %e3, H3⟩, ⟨%f4, %e4, H4⟩, Hk⟩
  obtain rfl := h1.eq_unread e1
  obtain rfl := h3.eq_unread e3
  obtain rfl := h4.eq_unread e4
  sl_exec (disch := first | sl_exact hf | sl_exact hl)
  sl_step
  iapply Hk
  isplitl [H1]
  · iexists _; isplitr; · ipureintro; exact h1.read_unread _
    iexact H1
  isplitl [H2]
  · iexists _; isplitr; · ipureintro; exact e2
    iexact H2
  isplitl [H3]
  · iexists _; isplitr
    swap; · iexact H3
    ipureintro
    rw [View.read_writes_full, View.readAt_full, View.readAt_full, e1, e3]
  iexists _; isplitr
  swap; · iexact H4
  ipureintro
  rw [View.read_writes_full, View.readAt_full, View.readAt_full, View.readAt_full, e1, e3, e4]

/-- The last point: the scratch buffers are updated by the block `X`, and the result's buffer ends at the updated columns. -/
theorem scan_last (c : Dev nD) (i : grid0.Coords) (M1 : Memref sig .tc .vmem S64x4096 .f32) (h1 : M1.IsWhole)
    (M2 : Memref sig .tc .vmem S64x1 .i32) (h2 : M2.IsWhole) (M3 : Memref sig .tc .vmem S64x1 .f32) (h3 : M3.IsWhole)
    (M4 : Memref sig .tc .vmem S64x1 .i32) (h4 : M4.IsWhole) (hf : ¬ isFirst i) (hl : isLast i)
    (X : Vec F S64x4096 .f32) (Y : Vec F S64x1 .i32) (vm : Vec F S64x1 .f32) (vi : Vec F S64x1 .i32) (K : PUnit → sProp 𝕄) :
    iprop(owns (c : Thread nD τ) M1 fullShare X ∗ owns (c : Thread nD τ) M2 fullShare Y
        ∗ owns (c : Thread nD τ) M3 fullShare vm ∗ owns (c : Thread nD τ) M4 fullShare vi
        ∗ (iprop(owns (c : Thread nD τ) M1 fullShare X ∗ owns (c : Thread nD τ) M2 fullShare (k0_pay8 i X vm vi)
            ∗ owns (c : Thread nD τ) M3 fullShare (k0_pay7 i X vm)
            ∗ owns (c : Thread nD τ) M4 fullShare (k0_pay8 i X vm vi)) -∗ K ⟨⟩))
      ⊢ wp frame (wpE (defs₀ (F := F)) Variants.none c none) Set.univ
          (cc0__argmax_body i M1 h1 M2 h2 M3 h3 M4 h4) K := by
  simp only [cc0__argmax_body_eq_skeleton]; unfold cc0__argmax_body_skel
  unfold owns
  iintro ⟨⟨%f1, %e1, H1⟩, ⟨%f2, %e2, H2⟩, ⟨%f3, %e3, H3⟩, ⟨%f4, %e4, H4⟩, Hk⟩
  obtain rfl := h1.eq_unread e1
  obtain rfl := h3.eq_unread e3
  obtain rfl := h4.eq_unread e4
  sl_exec (disch := first | sl_exact hf | sl_exact hl)
  sl_step
  iapply Hk
  isplitl [H1]
  · iexists _; isplitr; · ipureintro; exact h1.read_unread _
    iexact H1
  isplitl [H2]
  · iexists _; isplitr
    swap; · iexact H2
    ipureintro
    unfold scan_last.sl.v34 scan_last.sl.H4_1
    rw [View.read_writes_full, View.readCov_full, View.readAt_full, View.readAt_full, View.readAt_full, e1, e3, e4]
  isplitl [H3]
  · iexists _; isplitr
    swap; · iexact H3
    ipureintro
    rw [View.read_writes_full, View.readAt_full, View.readAt_full, e1, e3]
  iexists _; isplitr
  swap; · iexact H4
  ipureintro
  unfold scan_last.sl.H4_1
  rw [View.read_writes_full, View.readAt_full, View.readAt_full, View.readAt_full, e1, e3, e4]

/-- One point of the second call: given the tokens `T`, the output block's buffer, whatever it held, ends at the block's one-hot rows. -/
theorem onehot_run (c : Dev nD) (i : grid1.Coords) (M1 : Memref sig .tc .vmem S64x1 .i32) (h1 : M1.IsWhole)
    (M2 : Memref sig .tc .vmem S64x4096 .f32) (h2 : M2.IsWhole) (T : Vec F S64x1 .i32) (K : PUnit → sProp 𝕄) :
    iprop(owns (c : Thread nD τ) M1 fullShare T ∗ (∃ v, owns (c : Thread nD τ) M2 fullShare v)
        ∗ (iprop(owns (c : Thread nD τ) M1 fullShare T ∗ owns (c : Thread nD τ) M2 fullShare (k1_pay1 i T)) -∗ K ⟨⟩))
      ⊢ wp frame (wpE (defs₀ (F := F)) Variants.none c none) Set.univ (cc1__onehot_body i M1 h1 M2 h2) K := by
  simp only [cc1__onehot_body_eq_skeleton]; unfold cc1__onehot_body_skel
  unfold owns
  iintro ⟨⟨%f1, %e1, H1⟩, ⟨%d2, %f2, -, H2⟩, Hk⟩
  obtain rfl := h1.eq_unread e1
  sl_exec
  sl_step
  iapply Hk
  isplitl [H1]
  · iexists _; isplitr; · ipureintro; exact h1.read_unread _
    iexact H1
  iexists _; isplitr
  swap; · iexact H2
  ipureintro
  rw [View.read_writes_full, View.readAt_full, e1]

end Cert.KernelIdeal.Own

end
-- ==== Proof.KernelIdeal.Tile.lean ====
/-
  The column tiles of the operand and the scan over them.

  Grid point `t` reads columns `4096 t .. 4096 t + 4095`; the last tile overhangs the operand's 1000000 columns, and what the staging buffer holds there is not known. The body masks those
  columns, so what it computes depends on the operand alone: `k0_pay2_fill`. The scan's state after `n` tiles is `scan A n`.
-/
module
public import proofs.«01_k».proof.Proof.KernelIdeal.Body
public import proofs.«01_k».proof.Proof.Gen.KernelIdeal.Launch
public import Idealize.ShloMosaic.Lib.WordCmp
public import Idealize.ShloMosaic.Lib.ValueIdxCore
public import Idealize.ShloMosaic.Lib.Pipeline.FrameBody

@[expose] public section

noncomputable section

namespace Cert.KernelIdeal.Own

open Cert.KernelIdeal Cert.KernelIdeal.Gen
open Idealize.ShloMosaic Idealize.ShloMosaic.TcCoe
open Idealize.ShloMosaic.ValueIdx (ix2 idx2_lt0 idx2_lt1)
open Idealize.SL.Sem

variable {F : FTy → Type} [FloatOps F]

theorem lt_245 (t : Fin grid0.N) : t.val < 245 := lt_of_lt_of_eq t.isLt N_0

/-- The grid point of tile `n` (taken modulo the number of tiles). -/
def tileAt (n : ℕ) : grid0.Coords := grid0.coords ⟨n % 245, (Nat.mod_lt n (by decide)).trans_eq N_0.symm⟩

/-- The pipeline's point `t` is the grid point of tile `t`. -/
theorem coords_eq (t : Fin grid0.N) : grid0.coords t = tileAt t.val :=
  congrArg grid0.coords (Fin.ext (Nat.mod_eq_of_lt (lt_245 t)).symm)

theorem tileAt_val (n : ℕ) (h : n < 245) : (tileAt n 0).val = n := by
  have e : (tileAt n 0).val = n % 245 / 1 % 245 := Pipeline.Grid.coords_val _ 0 (by decide) rfl
  omega

/-- Only tile 0 starts the scan. -/
theorem isFirst_iff (n : ℕ) (h : n < 245) : isFirst (tileAt n) ↔ n = 0 := by
  unfold isFirst
  rw [tileAt_val n h]
  word_cmp

/-- Only tile 244 stores the result. -/
theorem isLast_iff (n : ℕ) (h : n < 245) : isLast (tileAt n) ↔ n = 244 := by
  unfold isLast k0_cond2
  simp only [tileAt_val n h]
  word_cmp

/-- Tile `n` of the operand: its columns from `4096 n` on, and 0 past the last column. -/
def tile (A : Vec F S64x1000000 .f32) (n : ℕ) : Vec F S64x4096 .f32 := fun j =>
  if h : n * 4096 + (j 1).val < 1000000 then A (ix2 (j 0) ⟨n * 4096 + (j 1).val, h⟩) else Scalar.ofBits .f32 0#32

/-- The column numbers the body computes. -/
theorem k0_pay1_apply (n : ℕ) (h : n < 245) (j : S64x4096.Idx) :
    k0_pay1 (tileAt n) j = BitVec.ofNat 32 (n * 4096 + (j 1).val) := by
  have hj := idx2_lt1 j
  unfold k0_pay1
  simp only [tileAt_val n h]
  show BitVec.ofNat 32 (0 + (j 1).val) + BitVec.ofNat 32 n * 4096#32 = _
  apply BitVec.eq_of_toNat_eq
  simp only [BitVec.toNat_add, BitVec.toNat_mul, BitVec.toNat_ofNat]
  omega

/-- The first axis's block index is 0 and the second's is the tile's number. -/
theorem transform_val (n : ℕ) (h : n < 245) : cc0_transform_0 (tileAt n) 0 = 0 ∧ cc0_transform_0 (tileAt n) 1 = n := by
  refine ⟨rfl, ?_⟩
  show (BitVec.ofNat 32 (tileAt n 0).val).toNat = n
  rw [tileAt_val n h, BitVec.toNat_ofNat]
  omega

/-- The columns moved at tile `n`: those that the operand has. -/
theorem xsize_val (n : ℕ) (h : n < 245) : win0_0.xsize (tileAt n) 0 = 64 ∧ win0_0.xsize (tileAt n) 1 = min 4096 (1000000 - n * 4096) := by
  constructor
  · show (Pipeline.Clip.of (cc0_transform_0 (tileAt n) 0) 64 64).extent 64 = 64
    rw [(transform_val n h).1]; rfl
  · show (Pipeline.Clip.of (cc0_transform_0 (tileAt n) 1) 4096 1000000).extent 4096 = _
    rw [(transform_val n h).2]
    unfold Pipeline.Clip.of
    split
    · show 4096 = _; omega
    · show 1000000 - n * 4096 = _; omega

/-- A column is moved if and only if it is a column of the operand. -/
theorem moved_iff (n : ℕ) (h : n < 245) (j : S64x4096.Idx) :
    win0_0.moved (tileAt n) j = true ↔ n * 4096 + (j 1).val < 1000000 := by
  have h0 := idx2_lt0 j
  have h1 := idx2_lt1 j
  rw [Pipeline.Window.moved_iff]
  constructor
  · intro hm
    have := (hm 1).trans_eq (xsize_val n h).2
    omega
  · intro hc a
    match a with
    | ⟨0, _⟩ => exact h0.trans_eq (xsize_val n h).1.symm
    | ⟨1, _⟩ => exact (show (j 1).val < min 4096 (1000000 - n * 4096) by omega).trans_eq (xsize_val n h).2.symm

/-- What the fetch at point `t` reads is the moved part of tile `t`. -/
theorem blk_read (A : Vec F S64x1000000 .f32) (t : Fin grid0.N) :
    (win0_0.blk t).view.read (Elt F) A = win0_0.cut (grid0.coords t) (tile A t.val) := by
  funext j
  have hj : t.val * 4096 + (j 1).val < 1000000 := by
    have key : ∀ k : S64x4096.Idx, win0_0.moved (grid0.coords t) k = true → t.val * 4096 + (k 1).val < 1000000 := by
      intro k hk
      rw [coords_eq, moved_iff _ (lt_245 t)] at hk
      exact hk
    exact key _ (win0_0.moved_xinj (grid0.coords t) j)
  have e0 : cc0_transform_0 (grid0.coords t) 0 = 0 := by rw [coords_eq]; exact (transform_val _ (lt_245 t)).1
  have e1 : cc0_transform_0 (grid0.coords t) 1 = t.val := by rw [coords_eq]; exact (transform_val _ (lt_245 t)).2
  show A ((win0_0.xrect (grid0.coords t)).emb j) = tile A t.val _
  unfold tile
  rw [dif_pos (show t.val * 4096 + (win0_0.xinj (grid0.coords t) j 1).val < 1000000 from hj)]
  refine congrArg A (funext fun a => Fin.ext ?_)
  rw [Rect.emb_apply]
  match a with
  | ⟨0, _⟩ =>
    show cc0_transform_0 (grid0.coords t) 0 * 64 + 1 * (j 0).val = (j 0).val
    rw [e0]; omega
  | ⟨1, _⟩ =>
    show cc0_transform_0 (grid0.coords t) 1 * 4096 + 1 * (j 1).val = t.val * 4096 + (j 1).val
    rw [e1]; omega

/-- The mask: a column of the operand reads the block, any other negative infinity. -/
theorem k0_pay2_apply (n : ℕ) (h : n < 245) (X : Vec F S64x4096 .f32) (j : S64x4096.Idx) :
    k0_pay2 (tileAt n) X j = if n * 4096 + (j 1).val < 1000000 then X j else Scalar.ofBits .f32 0xFF800000#32 := by
  have hj := idx2_lt1 j
  unfold k0_pay2
  show Scalar.select (IntOp.cmpi .slt (k0_pay1 (tileAt n) j) 1000000#32) (X j) _ = _
  rw [k0_pay1_apply n h]
  by_cases hc : n * 4096 + (j 1).val < 1000000
  · rw [if_pos hc, show IntOp.cmpi .slt (BitVec.ofNat 32 (n * 4096 + (j 1).val)) 1000000#32 = 1#1 by word_cmp]
    rfl
  · rw [if_neg hc, show IntOp.cmpi .slt (BitVec.ofNat 32 (n * 4096 + (j 1).val)) 1000000#32 = 0#1 by word_cmp]
    rfl

/-- The body's masked block does not depend on what the buffer holds outside the operand. -/
theorem k0_pay2_fill (A : Vec F S64x1000000 .f32) (t : Fin grid0.N) (d : Vec F S64x4096 .f32) :
    k0_pay2 (grid0.coords t) (win0_0.fill (grid0.coords t) d (win0_0.cut (grid0.coords t) (tile A t.val)))
      = k0_pay2 (grid0.coords t) (tile A t.val) := by
  funext j
  rw [coords_eq, k0_pay2_apply _ (lt_245 t), k0_pay2_apply _ (lt_245 t)]
  split
  · next hc =>
    unfold Pipeline.Window.fill
    rw [dif_pos ((moved_iff _ (lt_245 t) j).mpr hc)]
    rfl
  · rfl

/-- Of two blocks alike under the mask the body computes the same maximum, -/
theorem k0_pay7_congr (i : grid0.Coords) {X Y : Vec F S64x4096 .f32} (h : k0_pay2 i X = k0_pay2 i Y) (vm : Vec F S64x1 .f32) :
    k0_pay7 i X vm = k0_pay7 i Y vm := by
  unfold k0_pay7 k0_pay6 k0_pay3; rw [h]

/-- and the same column. -/
theorem k0_pay8_congr (i : grid0.Coords) {X Y : Vec F S64x4096 .f32} (h : k0_pay2 i X = k0_pay2 i Y) (vm : Vec F S64x1 .f32) (vi : Vec F S64x1 .i32) :
    k0_pay8 i X vm vi = k0_pay8 i Y vm vi := by
  unfold k0_pay8 k0_pay6 k0_pay3; rw [h]

/-- The running maximum and its column after `n` tiles. -/
def scan (A : Vec F S64x1000000 .f32) : ℕ → Vec F S64x1 .f32 × Vec F S64x1 .i32
  | 0 => (k0_pay4, k0_pay5)
  | n + 1 => (k0_pay7 (tileAt n) (tile A n) (scan A n).1, k0_pay8 (tileAt n) (tile A n) (scan A n).1 (scan A n).2)

/-- The tokens: the columns after the last tile. -/
def tok (A : Vec F S64x1000000 .f32) : Vec F S64x1 .i32 := (scan A 245).2

end Cert.KernelIdeal.Own

end
-- ==== Proof.KernelIdeal.Region0.lean ====
/-
  The first call's region: proof data and body obligation.

  Between points the two scratch buffers hold the scan's state, except before the first point, where they hold anything. The result's block is written back once, after the last point, with the
  tokens.
-/
module
public import proofs.«01_k».proof.Proof.KernelIdeal.Tile
public import Idealize.ShloMosaic.Lib.Pipeline.RegionArraysS

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UR sig nD τ) ℕ

/-- The buffers that belong to the second call, each at some contents. -/
def spare (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f))

/-- The invariant after `n` points: the scratch buffers hold the scan's state, or anything while `n` is 0. -/
def inv (A : Vec F S64x1000000 .f32) (c : Dev nD) (n : ℕ) : sProp 𝕄 :=
  iprop((∃ vm : Vec F S64x1 .f32, ∃ vi : Vec F S64x1 .i32, ⌜n ≠ 0 → vm = (scan A n).1 ∧ vi = (scan A n).2⌝
      ∗ owns (c : Thread nD τ) (Memref.whole cc0_scratch0) fullShare vm
      ∗ owns (c : Thread nD τ) (Memref.whole cc0_scratch1) fullShare vi) ∗ spare c)

variable (W : Dev nD → Valuation τ sig (Elt F))

/-- The operand the region finds. -/
abbrev opnd (c : Dev nD) : Vec F S64x1000000 .f32 := W c (Proc.devRef .tc main_arg0)

/-- The region's proof data. -/
def dat0 (c : Dev nD) : Dat τ (Elt F) Unit ℕ (UR sig nD τ) ℕ cfg0 c where
  A w := W c (Proc.devRef .tc (Pipeline.arrRef spec0 w))
  after w t := match w with
    | ⟨0, _⟩ => tile (opnd W c) t.val
    | ⟨1, _⟩ => (scan (opnd W c) (t.val + 1)).2
  Φ t := inv (opnd W c) c t.val
  q _ := fullShare
  owed _ := 0

/-- What the body finds in the operand's buffer. -/
theorem before0 (c : Dev nD) (t : Fin cfg0.N) (d : (cfg0.win 0).block.Idx → Elt F (cfg0.win 0).elt) :
    (dat0 W c).before 0 t d = win0_0.fill (grid0.coords t) d (win0_0.cut (grid0.coords t) (tile (opnd W c) t.val)) := by
  unfold Dat.before
  rw [if_pos (fetch0_0 t)]
  exact congrArg (win0_0.fill (grid0.coords t) d) (blk_read (opnd W c) t)

/-- The operand's buffer as the body leaves it. -/
theorem leaves0 (c : Dev nD) (t : Fin cfg0.N) :
    (dat0 W c).leaves 0 t = iprop(∃ d, owns (c : Thread nD τ) (st0_0 t) fullShare
      (win0_0.fill (grid0.coords t) d (win0_0.cut (grid0.coords t) (tile (opnd W c) t.val)))) := rfl

/-- The result's buffer where the body stores nothing: as it was. -/
theorem leaves1_idle (c : Dev nD) (t : Fin cfg0.N) (h : t.val ≠ 244) :
    (dat0 W c).leaves 1 t = iprop(∃ d, owns (c : Thread nD τ) (st0_1 t) fullShare ((dat0 W c).before 1 t d)) := by
  have hl : ¬ isLast (grid0.coords t) := by rw [coords_eq, isLast_iff _ (lt_245 t)]; exact h
  refine Dat.leaves_idle (dat0 W c) 1 t ?_ ?_
  · show (!(k0_cond2 (grid0.coords t) == 1#1)) = true
    rw [Bool.not_eq_true', beq_eq_false_iff_ne]
    exact hl
  · rw [Bool.eq_false_iff]
    intro hf
    have := (flush0_1 t).mp hf
    have := lt_245 t
    omega

/-- The result's buffer at the last point: the tokens. -/
theorem leaves1_last (c : Dev nD) (t : Fin cfg0.N) (h : t.val = 244) :
    (dat0 W c).leaves 1 t = owns (c : Thread nD τ) (st0_1 t) fullShare (scan (opnd W c) (t.val + 1)).2 := by
  have hl : isLast (grid0.coords t) := by rw [coords_eq, isLast_iff _ (lt_245 t)]; exact h
  unfold Dat.leaves
  rw [show cfg0.idle 1 (cfg0.grid.coords t) = false from by
    show (!(k0_cond2 (grid0.coords t) == 1#1)) = false
    rw [show k0_cond2 (grid0.coords t) = 1#1 from hl]; rfl]
  rfl

/-- The body's run at any point, from the invariant before it to the invariant after it. -/
theorem point0 (c : Dev nD) (t : Fin cfg0.N) :
    iprop((dat0 W c).Φ t.castSucc ∗ (dat0 W c).owesAt () t.castSucc
        ∗ (∃ d, owns (c : Thread nD τ) (st0_0 t) fullShare ((dat0 W c).before 0 t d))
        ∗ (∃ d, owns (c : Thread nD τ) (st0_1 t) fullShare ((dat0 W c).before 1 t d)))
      ⊢ wp frame (wpE (defs₀ (F := F)) Variants.none c none) Set.univ (bodyAt0 t) fun _ =>
        iprop((dat0 W c).Φ t.succ ∗ (dat0 W c).owesAt () t.succ ∗ (dat0 W c).leaves 0 t ∗ (dat0 W c).leaves 1 t) := by
  have hN := lt_245 t
  rw [show (dat0 W c).Φ t.castSucc = inv (opnd W c) c t.val from rfl,
    show (dat0 W c).Φ t.succ = inv (opnd W c) c (t.val + 1) from rfl,
    show (dat0 W c).owesAt () t.succ = (dat0 W c).owesAt () t.castSucc from rfl, leaves0]
  unfold bodyAt0 inv
  simp only [before0]
  iintro ⟨⟨⟨%vm, %vi, %hv, HM, HI⟩, Hs⟩, Ho, ⟨%d0, H0⟩, ⟨%d1, H1⟩⟩
  have e2 := k0_pay2_fill (opnd W c) t d0
  by_cases hz : t.val = 0
  · have hf : isFirst (grid0.coords t) := by rw [coords_eq, isFirst_iff _ hN]; exact hz
    have hl : ¬ isLast (grid0.coords t) := by rw [coords_eq, isLast_iff _ hN]; omega
    rw [leaves1_idle W c t (by omega)]
    iapply (scan_first c (grid0.coords t) _ _ _ _ _ _ _ _ hf hl _ _ _)
    isplitl [H0]; · iexact H0
    isplitl [H1]; · iexact H1
    isplitl [HM]; · iexists _; iexact HM
    isplitl [HI]; · iexists _; iexact HI
    iintro ⟨H0, H1, HM, HI⟩
    rw [k0_pay7_congr _ e2, k0_pay8_congr _ e2]
    isplitl [HM HI Hs]
    · isplitl [HM HI]
      · iexists _; iexists _
        isplitr
        swap
        · isplitl [HM]; · iexact HM
          iexact HI
        ipureintro
        intro _
        rw [coords_eq, hz]
        exact ⟨rfl, rfl⟩
      iexact Hs
    isplitl [Ho]; · iexact Ho
    isplitl [H0]; · iexists _; iexact H0
    iexists _; iexact H1
  · obtain ⟨rfl, rfl⟩ := hv hz
    have hf : ¬ isFirst (grid0.coords t) := by rw [coords_eq, isFirst_iff _ hN]; exact hz
    by_cases hlast : t.val = 244
    · have hl : isLast (grid0.coords t) := by rw [coords_eq, isLast_iff _ hN]; exact hlast
      rw [leaves1_last W c t hlast]
      iapply (scan_last c (grid0.coords t) _ _ _ _ _ _ _ _ hf hl _ _ _ _ _)
      isplitl [H0]; · iexact H0
      isplitl [H1]; · iexact H1
      isplitl [HM]; · iexact HM
      isplitl [HI]; · iexact HI
      iintro ⟨H0, H1, HM, HI⟩
      rw [k0_pay7_congr _ e2, k0_pay8_congr _ e2, coords_eq]
      isplitl [HM HI Hs]
      · isplitl [HM HI]
        · iexists _; iexists _
          isplitr
          swap
          · isplitl [HM]; · iexact HM
            iexact HI
          ipureintro
          intro _
          exact ⟨rfl, rfl⟩
        iexact Hs
      isplitl [Ho]; · iexact Ho
      isplitl [H0]; · iexists _; iexact H0
      iexact H1
    · have hl : ¬ isLast (grid0.coords t) := by rw [coords_eq, isLast_iff _ hN]; exact hlast
      rw [leaves1_idle W c t hlast]
      iapply (scan_middle c (grid0.coords t) _ _ _ _ _ _ _ _ hf hl _ _ _ _ _)
      isplitl [H0]; · iexact H0
      isplitl [H1]; · iexact H1
      isplitl [HM]; · iexact HM
      isplitl [HI]; · iexact HI
      iintro ⟨H0, H1, HM, HI⟩
      rw [k0_pay7_congr _ e2, k0_pay8_congr _ e2]
      isplitl [HM HI Hs]
      · isplitl [HM HI]
        · iexists _; iexists _
          isplitr
          swap
          · isplitl [HM]; · iexact HM
            iexact HI
          ipureintro
          intro _
          rw [coords_eq]
          exact ⟨rfl, rfl⟩
        iexact Hs
      isplitl [Ho]; · iexact Ho
      isplitl [H0]; · iexists _; iexact H0
      iexists _; iexact H1

/-- The body table's row is the body at the point's buffers. -/
theorem row0 (t : Fin cfg0.N) : defs₀ (F := F) .tc cfg0.body (cfg0.bodyArgs t (cfg0.slots t)) = bodyAt0 t := by
  unfold defs₀; rw [Defs.onTc_tc]

/-- The first call's body obligation. -/
theorem body0 (c : Dev nD) : BodyObligationLoose (dat0 W c) (defs₀ (F := F)) Variants.none () Set.univ := fun t => by
  rw [bigSep_W0, bigSep_W0, row0]
  exact triple_restated (point0 W c t) rfl .rfl fun _ => .rfl

/-- The launch's scratch buffers give the invariant before the first point. -/
theorem inv_in (c : Dev nD) :
    iprop(Pipeline.scopedRest (Ix := Unit) (Name := ℕ) (U := UR sig nD τ) (Lvl := ℕ) (Val := Elt F) spec0 c ∗ emp) ⊢ (dat0 W c).Φ 0 := by
  rw [scopedRest0_eq, show (dat0 W c).Φ 0 = inv (opnd W c) c 0 from rfl]
  unfold inv spare
  simp only [owns_whole_eq]
  iintro ⟨⟨⟨%f0, H0⟩, ⟨%f1, H1⟩, Hs⟩, -⟩
  isplitl [H0 H1]
  · iexists f0; iexists f1
    isplitr; · ipureintro; exact fun h => absurd rfl h
    isplitl [H0]
    · iexists f0; isplitr; · ipureintro; rfl
      iexact H0
    · iexists f1; isplitr; · ipureintro; rfl
      iexact H1
  iexact Hs

/-- The invariant after the last point gives them back. -/
theorem inv_out (c : Dev nD) :
    (dat0 W c).Φ (Fin.last cfg0.N) ⊢ iprop(Pipeline.scopedRest (Ix := Unit) (Name := ℕ) (U := UR sig nD τ) (Lvl := ℕ) (Val := Elt F) spec0 c ∗ emp) := by
  rw [scopedRest0_eq, show (dat0 W c).Φ (Fin.last cfg0.N) = inv (opnd W c) c (Fin.last cfg0.N).val from rfl]
  unfold inv spare
  simp only [owns_whole_eq]
  iintro ⟨⟨%vm, %vi, -, ⟨%f0, -, H0⟩, ⟨%f1, -, H1⟩⟩, Hs⟩
  isplitl
  · isplitl [H0]; · iexists _; iexact H0
    isplitl [H1]; · iexists _; iexact H1
    iexact Hs
  iempintro

end Cert.KernelIdeal.Own

end
-- ==== Proof.KernelIdeal.Region1.lean ====
/-
  The second call's region: proof data, body obligation and the array it leaves.

  Every point reads the tokens, which one fetch before the first point brings, and writes one block of the one-hot matrix; the last block overhangs the matrix and is cut there.
-/
module
public import proofs.«01_k».proof.Proof.KernelIdeal.Region0
public import Idealize.ShloMosaic.Lib.Pipeline.ValueKit.Geometry

@[expose] public section

noncomputable section

namespace Cert.KernelIdeal.Own

open Cert.KernelIdeal Cert.KernelIdeal.Gen
open Idealize.ShloMosaic Idealize.ShloMosaic.TcCoe
open Idealize.ShloMosaic.ValueIdx (ix2 idx2_lt0 idx2_lt1)
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationLoose)

variable {F : FTy → Type} [FloatOps F]

local notation "𝕄" => MT nD τ sig Unit (Elt F) ℕ (UR sig nD τ) ℕ

/-- The one-hot matrix of the tokens `T`: 1 where the column is the row's token, 0 elsewhere. -/
def hot (T : Vec F S64x1 .i32) : Vec F S64x1000000 .f32 := fun i =>
  Scalar.select (IntOp.cmpi .eq (BitVec.ofNat 32 (i 1).val) (T (ix2 (i 0) 0)))
    (Scalar.ofBits .f32 0x3F800000#32 : F .f32) (Scalar.ofBits .f32 0x00000000#32)

theorem lt_245' (t : Fin grid1.N) : t.val < 245 := lt_of_lt_of_eq t.isLt N_1

theorem coords1_val (t : Fin grid1.N) : (grid1.coords t 0).val = t.val := by
  have e : (grid1.coords t 0).val = t.val / 1 % 245 := Pipeline.Grid.coords_val t 0 (by decide) rfl
  have := lt_245' t
  omega

/-- The stored block at an element. -/
theorem k1_pay1_apply (t : Fin grid1.N) (T : Vec F S64x1 .i32) (j : S64x4096.Idx) :
    k1_pay1 (grid1.coords t) T j
      = Scalar.select (IntOp.cmpi .eq (BitVec.ofNat 32 (t.val * 4096 + (j 1).val)) (T (ix2 (j 0) 0)))
          (Scalar.ofBits .f32 0x3F800000#32) (Scalar.ofBits .f32 0x00000000#32) := by
  have hj := idx2_lt1 j
  have ht := lt_245' t
  have e1 : BitVec.ofNat 32 (0 + (j 1).val) + BitVec.ofNat 32 t.val * 4096#32 = BitVec.ofNat 32 (t.val * 4096 + (j 1).val) := by
    apply BitVec.eq_of_toNat_eq
    simp only [BitVec.toNat_add, BitVec.toNat_mul, BitVec.toNat_ofNat]
    omega
  rw [← e1]
  unfold k1_pay1
  simp only [coords1_val t, shapeCast_self]
  refine congrArg (fun v => Scalar.select (IntOp.cmpi .eq (BitVec.ofNat 32 (0 + (j 1).val) + BitVec.ofNat 32 t.val * 4096#32) v) _ _) ?_
  refine congrArg T (funext fun a => ?_)
  match a with
  | ⟨0, _⟩ => rfl
  | ⟨1, _⟩ => rfl

variable (W : Dev nD → Valuation τ sig (Elt F))

/-- The tokens the region finds. -/
abbrev toks (c : Dev nD) : Vec F S64x1 .i32 := W c (Proc.devRef .tc main_v0)

/-- The region's proof data. -/
def dat1 (c : Dev nD) : Dat τ (Elt F) Unit ℕ (UR sig nD τ) ℕ cfg1 c where
  A w := W c (Proc.devRef .tc (Pipeline.arrRef spec1 w))
  after w t := match w with
    | ⟨0, _⟩ => toks W c
    | ⟨1, _⟩ => k1_pay1 (grid1.coords t) (toks W c)
  Φ _ := Pipeline.scopedRest spec1 c
  q _ := fullShare
  owed _ := 0

/-- The fetched block is the array of tokens. -/
theorem blk1_read (T : Vec F S64x1 .i32) (t : Fin grid1.N) : (win1_0.blk t).view.read (Elt F) T = T := by
  funext j
  show T ((win1_0.rect t).emb j) = T j
  refine congrArg T (funext fun a => Fin.ext ?_)
  rw [Rect.emb_apply]
  match a with
  | ⟨0, _⟩ => show 0 * 64 + 1 * (j 0).val = (j 0).val; omega
  | ⟨1, _⟩ => show 0 * 1 + 1 * (j 1).val = (j 1).val; omega

/-- What the body finds in the tokens' buffer, whether fetched at the point or before. -/
theorem before1 (c : Dev nD) (t : Fin cfg1.N) (d : (cfg1.win 0).block.Idx → Elt F (cfg1.win 0).elt) :
    (dat1 W c).before 0 t d = toks W c := by
  rw [Dat.before_in_eq_fetched (dat1 W c) 0 rfl (fun _ => rfl) (fun _ _ _ => rfl) (fun t => (blk1_read (toks W c) t).symm) t d]
  exact blk1_read (toks W c) t

/-- The body's run at any point. -/
theorem point1 (c : Dev nD) (t : Fin cfg1.N) :
    iprop((dat1 W c).Φ t.castSucc ∗ (dat1 W c).owesAt () t.castSucc
        ∗ (∃ d, owns (c : Thread nD τ) (st1_0 t) fullShare ((dat1 W c).before 0 t d))
        ∗ (∃ d, owns (c : Thread nD τ) (st1_1 t) fullShare ((dat1 W c).before 1 t d)))
      ⊢ wp frame (wpE (defs₀ (F := F)) Variants.none c none) Set.univ (bodyAt1 t) fun _ =>
        iprop((dat1 W c).Φ t.succ ∗ (dat1 W c).owesAt () t.succ ∗ (dat1 W c).leaves 0 t ∗ (dat1 W c).leaves 1 t) := by
  rw [show (dat1 W c).Φ t.succ = (dat1 W c).Φ t.castSucc from rfl,
    show (dat1 W c).owesAt () t.succ = (dat1 W c).owesAt () t.castSucc from rfl,
    show (dat1 W c).leaves 0 t = owns (c : Thread nD τ) (st1_0 t) fullShare (toks W c) from rfl,
    show (dat1 W c).leaves 1 t = iprop(∃ d, owns (c : Thread nD τ) (st1_1 t) fullShare
      (win1_1.fill (grid1.coords t) d (win1_1.cut (grid1.coords t) (k1_pay1 (grid1.coords t) (toks W c))))) from rfl]
  unfold bodyAt1
  simp only [before1]
  iintro ⟨HΦ, Ho, ⟨%d0, H0⟩, ⟨%d1, H1⟩⟩
  iapply (onehot_run c (grid1.coords t) _ _ _ _ _ _)
  isplitl [H0]; · iexact H0
  isplitl [H1]; · iexists _; iexact H1
  iintro ⟨H0, H1⟩
  isplitl [HΦ]; · iexact HΦ
  isplitl [Ho]; · iexact Ho
  isplitl [H0]; · iexact H0
  iexists (k1_pay1 (grid1.coords t) (toks W c))
  rw [Pipeline.Window.fill_cut]
  iexact H1

/-- The body table's row is the body at the point's buffers. -/
theorem row1 (t : Fin cfg1.N) : defs₀ (F := F) .tc cfg1.body (cfg1.bodyArgs t (cfg1.slots t)) = bodyAt1 t := by
  unfold defs₀; rw [Defs.onTc_tc]

/-- The second call's body obligation. -/
theorem body1 (c : Dev nD) : BodyObligationLoose (dat1 W c) (defs₀ (F := F)) Variants.none () Set.univ := fun t => by
  rw [bigSep_W1, bigSep_W1, row1]
  exact triple_restated (point1 W c t) rfl .rfl fun _ => .rfl

/-- The first call's result array after its last point: the tokens. -/
theorem arr0 (c : Dev nD) : (dat0 W c).arrAt 1 cfg0.N = tok (opnd W c) := by
  refine (dat0 W c).arrAt_eq_of_covers 1 _ (by decide +kernel) fun t hf y => ?_
  have ht : t.val = 244 := by
    have := (flush0_1 t).mp hf
    have := lt_245 t
    omega
  show (scan (opnd W c) (t.val + 1)).2 (win0_1.xinj (grid0.coords t) y) = tok (opnd W c) ((win0_1.rect t).emb y)
  rw [ht]
  refine congrArg (tok (opnd W c)) (funext fun a => Fin.ext ?_)
  rw [Rect.emb_apply]
  match a with
  | ⟨0, _⟩ => show (y 0).val = 0 * 64 + 1 * (y 0).val; omega
  | ⟨1, _⟩ => show (y 1).val = 0 * 1 + 1 * (y 1).val; omega

/-- The second call's result array after its last point: the one-hot matrix. -/
theorem arr1 (c : Dev nD) : (dat1 W c).arrAt 1 cfg1.N = hot (toks W c) := by
  refine (dat1 W c).arrAt_eq_of_covers 1 _ (by decide +kernel) fun t hf y => ?_
  show k1_pay1 (grid1.coords t) (toks W c) (win1_1.xinj (grid1.coords t) y) = hot (toks W c) ((win1_1.xrect (grid1.coords t)).emb y)
  rw [k1_pay1_apply]
  have e0 : cc1_transform_1 (grid1.coords t) 0 = 0 := rfl
  have e1 : cc1_transform_1 (grid1.coords t) 1 = t.val := by
    show (BitVec.ofNat 32 (grid1.coords t 0).val).toNat = t.val
    have := lt_245' t
    rw [coords1_val, BitVec.toNat_ofNat]
    omega
  have h0 : ((win1_1.xrect (grid1.coords t)).emb y 0).val = (y 0).val := by
    rw [Rect.emb_apply]
    show cc1_transform_1 (grid1.coords t) 0 * 64 + 1 * (y 0).val = _
    rw [e0]; omega
  have h1 : ((win1_1.xrect (grid1.coords t)).emb y 1).val = t.val * 4096 + (y 1).val := by
    rw [Rect.emb_apply]
    show cc1_transform_1 (grid1.coords t) 1 * 4096 + 1 * (y 1).val = _
    rw [e1]; omega
  unfold hot
  rw [h1]
  refine congrArg (fun r => Scalar.select (IntOp.cmpi .eq (BitVec.ofNat 32 (t.val * 4096 + (y 1).val)) (toks W c (ix2 r 0))) _ _) ?_
  exact Fin.ext h0.symm

end Cert.KernelIdeal.Own

end
-- ==== Proof.KernelIdeal.Run.lean ====
/-
  The program's run: both calls and the host reshape, for any float operations `F`.

  Between the items every core holds its buffers at a valuation: as launched, after the first call, after the second, after the reshape. `run_main` reads the arguments and both results off the last.
-/
module
public import proofs.«01_k».proof.Proof.KernelIdeal.Region1
public import proofs.«01_k».proof.Proof.Gen.KernelIdeal.Regions

@[expose] public section

noncomputable section

namespace Cert.KernelIdeal.Own

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg LevelCut)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffers after the first call, -/
def W1 (c : Dev nD) : Valuation τ sig (Elt F) := Pipeline.afterRegion (dat0 (V0 m) c) (V0 m c)
/-- after the second, -/
def W2 (c : Dev nD) : Valuation τ sig (Elt F) := Pipeline.afterRegion (dat1 (W1 m) c) (W1 m c)
/-- and after the reshape. -/
def W3 (c : Dev nD) : Valuation τ sig (Elt F) := StableHlo.after hostOps2 (W2 m c)

/-- Both regions' proof data. -/
def pdats (p : Fin 2) (c : Dev nD) : Dat τ (Elt F) Unit ℕ (UR sig nD τ) ℕ (cfgs p) c := match p with
  | ⟨0, _⟩ => dat0 (V0 m) c
  | ⟨1, _⟩ => dat1 (W1 m) c

/-- The credits: one on each counter of a TensorCore. -/
def L (g : GSem nD τ sig) : Finset Unit := if g.1.2 = .tc then {()} else ∅
/-- All at level 0. -/
def lv (_ : GSem nD τ sig) (_ : Unit) : ℕ := 0

theorem cut (p : Fin 2) : LevelCut (pcfgs (F := F)) adm () L lv p (fun _ => 0) (fun _ => 0) where
  hι _ _ _ := Finset.mem_singleton.mpr rfl
  hιb _ _ _ := le_refl 0
  hD _ _ _ h := absurd h (Nat.not_lt_zero _)

/-- The first call's record. -/
def reg0 : RegionSeg (pcfgs (F := F)) adm (pdats m) () defs₀ Variants.none L lv 0 :=
  RegionSeg.ofHeldIn (pcfgs (F := F)) adm (pdats m) () defs₀ Variants.none L lv 0 (fun _ => 0) (Pipeline.ucRefs τ sig) (fun _ => iprop(emp)) (fun _ => iprop(emp))
    launch0.toP rfl (body0 (V0 m)) (fun _ _ => rfl) (fun _ => rfl) (fun c => (dat0 (V0 m) c).share_full fun _ => rfl)
    (inv_in (V0 m)) (inv_out (V0 m)) (fun _ => 0) (cut 0) (fun _ => iprop(emp)) (V0 m) (fun _ _ => rfl)

/-- The second call's record. -/
def reg1 : RegionSeg (pcfgs (F := F)) adm (pdats m) () defs₀ Variants.none L lv 1 :=
  RegionSeg.ofHeldIn (pcfgs (F := F)) adm (pdats m) () defs₀ Variants.none L lv 1 (fun _ => 0) (Pipeline.ucRefs τ sig) (fun _ => iprop(emp)) (fun _ => iprop(emp))
    launch1.toP rfl (body1 (W1 m)) (fun _ _ => rfl) (fun _ => rfl) (fun c => (dat1 (W1 m) c).share_full fun _ => rfl)
    (fun _ => sep_emp.mp) (fun _ => sep_emp.mpr) (fun _ => 0) (cut 1) (fun _ => iprop(emp)) (W1 m) (fun _ _ => rfl)

/-- What a core holds beside its buffers: that it owes nothing. -/
abbrev rest (c : Dev nD) : sProp 𝕄 := iprop((∃ Wd, owes (c : Thread nD τ) 0 Wd) ∗ emp ∗ emp)

/-- The reshape's record. -/
def host2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W2 m) rest

/-- The program's items. -/
abbrev items (_ : Dev nD) : List (Seg (pcfgs (F := F)) adm (pdats m) () defs₀ Variants.none L lv) :=
  [.region (reg0 m), .region (reg1 m), .host (host2 m)]

/-! ## The buffers at the end -/

/-- The arguments stay as launched. -/
theorem W3_arg0 (c : Dev nD) : W3 m c main_arg0 = m ((c : Thread nD τ).loc main_arg0) := by
  unfold W3 W2 W1
  rw [StableHlo.after_of_writes_sub hostOps2 _ hostOps2_writes (by decide : main_arg0 ∉ hostOps2_W),
    Pipeline.afterRegion_keeps (dat1 _ c) _ launch1.win.arr_inj (fun _ => rfl) main_arg0 (by decide),
    Pipeline.afterRegion_keeps (dat0 _ c) _ launch0.win.arr_inj (fun _ => rfl) main_arg0 (by decide)]

theorem W3_arg1 (c : Dev nD) : W3 m c main_arg1 = m ((c : Thread nD τ).loc main_arg1) := by
  unfold W3 W2 W1
  rw [StableHlo.after_of_writes_sub hostOps2 _ hostOps2_writes (by decide : main_arg1 ∉ hostOps2_W),
    Pipeline.afterRegion_keeps (dat1 _ c) _ launch1.win.arr_inj (fun _ => rfl) main_arg1 (by decide),
    Pipeline.afterRegion_keeps (dat0 _ c) _ launch0.win.arr_inj (fun _ => rfl) main_arg1 (by decide)]

/-- The tokens as the first call leaves them. -/
theorem W1_v0 (c : Dev nD) : W1 m c main_v0 = tok (m ((c : Thread nD τ).loc main_arg0)) :=
  (Pipeline.afterRegion_arr (dat0 (V0 m) c) (V0 m c) launch0.win.arr_inj 1).trans (arr0 (V0 m) c)

theorem W2_v0 (c : Dev nD) : W2 m c main_v0 = tok (m ((c : Thread nD τ).loc main_arg0)) :=
  (Pipeline.afterRegion_keeps (dat1 _ c) _ launch1.win.arr_inj (fun _ => rfl) main_v0 (by decide)).trans (W1_v0 m c)

/-- The second result: the one-hot matrix of the tokens. -/
theorem W3_v1 (c : Dev nD) : W3 m c main_v1 = hot (tok (m ((c : Thread nD τ).loc main_arg0))) := by
  unfold W3
  rw [StableHlo.after_of_writes_sub hostOps2 _ hostOps2_writes (by decide : main_v1 ∉ hostOps2_W)]
  refine ((Pipeline.afterRegion_arr (dat1 (W1 m) c) (W1 m c) launch1.win.arr_inj 1).trans (arr1 (W1 m) c)).trans ?_
  exact congrArg hot (W1_v0 m c)

/-- The first result: the tokens, one per row. -/
theorem W3_v2 (c : Dev nD) : W3 m c main_v2 = shapeCast S64 (tok (m ((c : Thread nD τ).loc main_arg0))) shapeCasts_S64x1_S64 := by
  unfold W3
  rw [← W2_v0 m c]
  after_results
  rfl

/-! ## The run -/

theorem sub0 : Pipeline.arrRefs (τ := τ) (pcfgs (F := F) 0).spec ⊆ Pipeline.ucRefs τ sig :=
  Pipeline.arrRefs_sub_ucRefs (spec0) (by decide)

theorem sub1 : Pipeline.arrRefs (τ := τ) (pcfgs (F := F) 1).spec ⊆ Pipeline.ucRefs τ sig :=
  Pipeline.arrRefs_sub_ucRefs (spec1) (by decide)

/-- The first call is entered from the buffers as launched, -/
theorem reg0_pre (c : Dev nD) : iprop(StableHlo.held (c : Thread nD τ) (Pipeline.ucRefs τ sig) (V0 m c) ∗ rest c) ⊢ (reg0 m).pre c := by
  have h := RegionSeg.ofHeldIn_pre (pcs := pcfgs (F := F)) (a := adm) (pdats := pdats m) (ι := ()) (defs₀ := defs₀) (𝒱₀ := Variants.none) (L := L) (lv := lv) (p := 0)
    (D := fun _ => 0) sub0 (X := fun _ => iprop(emp)) (Y := fun _ => iprop(emp)) (kit := launch0.toP) (hK := rfl) (hbody := body0 (V0 m)) (howed := fun _ _ => rfl)
    (hrec := fun _ => rfl) (hshare := fun c => (dat0 (V0 m) c).share_full fun _ => rfl) (hin := (inv_in (V0 m))) (hout := (inv_out (V0 m))) (b := fun _ => 0) (hcut := cut 0)
    (R := fun _ => iprop(emp)) (W := V0 m) (hW := fun _ _ => rfl) c
  exact h

/-- and left with them at `W1`; -/
theorem reg0_post (c : Dev nD) : (reg0 m).post c ⊢ iprop(StableHlo.held (c : Thread nD τ) (Pipeline.ucRefs τ sig) (W1 m c) ∗ rest c) := by
  unfold reg0 W1; exact RegionSeg.ofHeldIn_post sub0 c

/-- the second is entered from there -/
theorem reg1_pre (c : Dev nD) : iprop(StableHlo.held (c : Thread nD τ) (Pipeline.ucRefs τ sig) (W1 m c) ∗ rest c) ⊢ (reg1 m).pre c := by
  have h := RegionSeg.ofHeldIn_pre (pcs := pcfgs (F := F)) (a := adm) (pdats := pdats m) (ι := ()) (defs₀ := defs₀) (𝒱₀ := Variants.none) (L := L) (lv := lv) (p := 1)
    (D := fun _ => 0) sub1 (X := fun _ => iprop(emp)) (Y := fun _ => iprop(emp)) (kit := launch1.toP) (hK := rfl) (hbody := body1 (W1 m)) (howed := fun _ _ => rfl)
    (hrec := fun _ => rfl) (hshare := fun c => (dat1 (W1 m) c).share_full fun _ => rfl) (hin := (fun _ => sep_emp.mp)) (hout := (fun _ => sep_emp.mpr)) (b := fun _ => 0) (hcut := cut 1)
    (R := fun _ => iprop(emp)) (W := W1 m) (hW := fun _ _ => rfl) c
  exact h

/-- and left with them at `W2`. -/
theorem reg1_post (c : Dev nD) : (reg1 m).post c ⊢ iprop(StableHlo.held (c : Thread nD τ) (Pipeline.ucRefs τ sig) (W2 m c) ∗ rest c) := by
  unfold reg1 W2; exact RegionSeg.ofHeldIn_post sub1 c

/-- The launch's resource: the pipelines' own. -/
def u₀ : UR sig nD τ := initOf (Pipeline.cells cfgs cellOf_inj) (Pipeline.launchToks cfgs cellOf_inj)

set_option backward.isDefEq.respectTransparency.types false in
/-- From any memory with all counters at zero the program runs; it leaves the arguments as they were, the tokens and their one-hot matrix as results, and every counter at zero. -/
theorem run_main : θ_run defs (onTc (τ := τ) (main (F := F))) ⟨m, fun _ => 0, ρ⟩ (fun r => (∀ c : Dev nD,
      r.2.mem ((c.tc : Thread nD τ).loc main_v2) = shapeCast S64 (tok (m ((c : Thread nD τ).loc main_arg0))) shapeCasts_S64x1_S64
      ∧ r.2.mem ((c.tc : Thread nD τ).loc main_v1) = hot (tok (m ((c : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  refine Pipeline.θ_run_regions_kit_dev_sems (pcfgs (F := F)) adm (pdats m) () cellOf_inj emb₁ defs₀ Variants.none L lv m ρ main (items m)
    (fun c Q => by rw [main_segs adm (pdats m) () Variants.none L lv (host2 m) (reg0 m) (reg1 m) rfl c])
    (fun c => by simp only [Seg.pipes_host, Seg.pipes_region, Seg.pipes_nil]; decide)
    (O₀ := 0) (hL := fun g h => if_neg h) (G := fun _ => iprop(emp)) (u₀ := u₀)
    (hu₀ := ?_)
    (T₀ := fun c => iprop(StableHlo.held (c : Thread nD τ) (Pipeline.ucRefs τ sig) (V0 m c) ∗ rest c))
    (Tₙ := fun c => StableHlo.held (c : Thread nD τ) (Pipeline.ucRefs τ sig) (W3 m c))
    (hch := fun c => ⟨reg0_pre m c, (reg0_post m c).trans (reg1_pre m c), reg1_post m c, sep_mono .rfl (sep_mono .rfl sep_emp.mp |>.trans sep_emp.mp)⟩)
    (hinit := ?_)
    (QY := fun c s => s.mem ((c.tc : Thread nD τ).loc main_v2) = shapeCast S64 (tok (m ((c : Thread nD τ).loc main_arg0))) shapeCasts_S64x1_S64
      ∧ s.mem ((c.tc : Thread nD τ).loc main_v1) = hot (tok (m ((c : Thread nD τ).loc main_arg0)))
      ∧ s.mem ((c.tc : Thread nD τ).loc main_arg0) = m ((c.tc : Thread nD τ).loc main_arg0)
      ∧ s.mem ((c.tc : Thread nD τ).loc main_arg1) = m ((c.tc : Thread nD τ).loc main_arg1))
    (hfin := fun c s' => ?_) (hQ := fun _ h hz => ⟨h, funext fun g => hz g (.inr (regions_no_unscoped g.2))⟩)
  · iintro Hu; imodintro
    isplitl [Hu]
    · iapply (show (ownU u₀ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · refine Pipeline.initEach L lv fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    isplitl [HO]; · iexists ∅; iexact HO
    isplitl <;> iempintro
  · unfold StableHlo.held
    iintro ⟨Hh, HSI⟩
    ihave Hr := (pointsTo_read_all (Pipeline.ucRefs τ sig) (fun b => ((c : Thread nD τ).1, b)) (W3 m c) s') $$ [Hh HSI]
    · isplitl [Hh] <;> iassumption
    icases Hr with ⟨%h, HSI⟩
    imodintro
    isplitr
    · ipureintro
      exact ⟨(h (Proc.devRef .tc main_v2) (Finset.mem_filter.mpr ⟨StableHlo.devRef_mem_tcRefs main_v2, by decide⟩)).trans (W3_v2 m c),
        (h (Proc.devRef .tc main_v1) (Finset.mem_filter.mpr ⟨StableHlo.devRef_mem_tcRefs main_v1, by decide⟩)).trans (W3_v1 m c),
        (h (Proc.devRef .tc main_arg0) (Finset.mem_filter.mpr ⟨StableHlo.devRef_mem_tcRefs main_arg0, by decide⟩)).trans (W3_arg0 m c),
        (h (Proc.devRef .tc main_arg1) (Finset.mem_filter.mpr ⟨StableHlo.devRef_mem_tcRefs main_arg1, by decide⟩)).trans (W3_arg1 m c)⟩
    · iexact HSI

end Cert.KernelIdeal.Own

end
-- ==== Proof.ReferenceIdeal.Run.lean ====
/-
  The reference's run: its eleven operations in order, and what they leave in the two results' buffers.
-/
module
public import proofs.«01_k».proof.Proof.Gen.ReferenceIdeal
public import Idealize.ShloMosaic.Lib.StableHlo.Run

@[expose] public section

noncomputable section

namespace Cert.ReferenceIdeal.Own

open Cert.ReferenceIdeal Cert.ReferenceIdeal.Gen
open Idealize.ShloMosaic Idealize.ShloMosaic.TcCoe Idealize.ShloMosaic.StableHlo
open Idealize.SL.Sem

variable {F : FTy → Type} [FloatOps F]

/-- Each row's largest entry and its index, as the reference reduces them. -/
def pairs (A : FVec F S64x1000000 .f32) : S64.Idx → F .f32 × BitVec 32 :=
  Host.argReduce reducer_argmax_f32_i32 A (iotaInDim S64x1000000 32 1) (constant S_ .f32 0xFF800000#32) (constantI S_ 32 0#32)
    reducesTo_S64x1000000_S64_d1 h_S_

/-- The indices. -/
def best (A : FVec F S64x1000000 .f32) : IVec S64 32 := fun j => (pairs A j).2

/-- The one-hot matrix of the indices `T`, as the reference computes it. -/
def onehot (T : IVec S64 32) : FVec F S64x1000000 .f32 :=
  uitofp .f32 (cmpi .eq
    (broadcastInDim S64x1000000 ![0, 1] bcast_S64x1_S64x1000000_0_1 (broadcastInDim S64x1 ![0] bcast_S64_S64x1_0 T))
    (broadcastInDim S64x1000000 ![0, 1] bcast_S1x1000000_S64x1000000_0_1 (iotaInDim S1x1000000 32 1)))

/-- The operations in order: five of the row-wise argmax, six of the one-hot encoding. -/
abbrev ops : List (HloOp τ sig (Elt F)) :=
  [ TRef.nullary main_call0.v0 (iotaInDim S64x1000000 32 1),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S64x1000000_S64_d1 h_S_ j).1),
    TRef.quaternary (.of main_arg0) main_call0.v0 main_call0.cst main_call0.c main_call0.v1_1
      (fun x y u v j => (Host.argReduce reducer_argmax_f32_i32 x y u v reducesTo_S64x1000000_S64_d1 h_S_ j).2),
    TRef.unary (.of main_v0 : TRef sig ⟨S64, .i32⟩) main_call1.v0 (broadcastInDim S64x1 ![0] bcast_S64_S64x1_0),
    TRef.nullary main_call1.v1 (iotaInDim S1x1000000 32 1),
    TRef.unary main_call1.v0 main_call1.v2 (broadcastInDim S64x1000000 ![0, 1] bcast_S64x1_S64x1000000_0_1),
    TRef.unary main_call1.v1 main_call1.v3 (broadcastInDim S64x1000000 ![0, 1] bcast_S1x1000000_S64x1000000_0_1),
    TRef.binary main_call1.v2 main_call1.v3 main_call1.v4 (cmpi .eq),
    TRef.unary main_call1.v4 main_call1.v5 (uitofp .f32) ]

/-- The program runs these operations. -/
theorem main_eq (c : Dev nD) : main (F := F) c = seq ops := by
  simp only [main, fn_argmax.body, fn_one_hot.body, seq, bind_assoc, pure_bind]

theorem ops_sub : (ops : List (HloOp τ sig (Elt F))).Forall fun op => op.bufs ⊆ tcRefs τ sig :=
  ⟨nullary_bufs_sub .., nullary_bufs_sub .., nullary_bufs_sub .., quaternary_bufs_sub .., quaternary_bufs_sub .., unary_bufs_sub ..,
    nullary_bufs_sub .., unary_bufs_sub .., unary_bufs_sub .., binary_bufs_sub .., unary_bufs_sub ..⟩

theorem ops_fresh : (ops : List (HloOp τ sig (Elt F))).Forall fun op => op.fresh = ∅ :=
  ⟨rfl, rfl, rfl, rfl, rfl, rfl, rfl, rfl, rfl, rfl, rfl⟩

/-- After the operations the first result's buffer holds the indices, -/
theorem after_v0 (V : Valuation τ sig (Elt F)) : after ops V (main_v0 : DevRef τ sig) = best (V (main_arg0 : DevRef τ sig)) := by
  after_results_simp
  rfl

/-- the second's their one-hot matrix. -/
theorem after_v1 (V : Valuation τ sig (Elt F)) : after ops V (main_v1 : DevRef τ sig) = onehot (best (V (main_arg0 : DevRef τ sig))) := by
  after_results_simp
  simp only [TRef.ofBuf_toBuf]
  rfl

/-- From any memory with all counters at zero the reference runs; it leaves the indices, their one-hot matrix and the arguments as they were. -/
theorem run_main (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v0) = best (m ((c.tc : Thread nD τ).loc main_arg0))
      ∧ r.2.mem ((c.tc : Thread nD τ).loc main_v1) = onehot (best (m ((c.tc : Thread nD τ).loc main_arg0)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v0).trans (after_v0 _), (h c main_v1).trans (after_v1 _), (h c main_arg0).trans (by after_results_simp), (h c main_arg1).trans (by after_results_simp)⟩)
    (run_seq (by decide) (by decide) defs main (fun _ => ops) main_eq (fun _ => ops_sub) m ρ (fun _ => List.forall_iff_forall_mem.1 ops_fresh))

end Cert.ReferenceIdeal.Own

end
-- ==== Proof.Argmax.lean ====
/-
  The argmax of a row of extended reals, apart from any program: what it is, that it is unique, and how it extends over further columns.
-/
module
public import Idealize.ShloMosaic.PureOps.Ideal.Laws
public import Idealize.ShloMosaic.PureOps.Reduce
public import Idealize.ShloMosaic.Lib.ValueIdxCore

@[expose] public section

noncomputable section

namespace Cert.Own

open Idealize.ShloMosaic

/-- `v` is the largest of the first `n` entries of `A` and `i` is the first place that holds it; if they are all `⊥` then `i` is 0. -/
structure Best (A : ℕ → EReal) (n : ℕ) (v : EReal) (i : ℕ) : Prop where
  le : ∀ k < n, A k ≤ v
  first : (v = ⊥ ∧ i = 0) ∨ (⊥ < v ∧ i < n ∧ A i = v ∧ ∀ k < i, A k < v)

/-- No two places are both the first largest. -/
theorem Best.unique {A : ℕ → EReal} {n : ℕ} {v v' : EReal} {i i' : ℕ} (h : Best A n v i) (h' : Best A n v' i') : i = i' := by
  rcases h.first with ⟨hv, hi⟩ | ⟨hv, hin, hi, hk⟩ <;> rcases h'.first with ⟨hv', hi'⟩ | ⟨hv', hin', hi', hk'⟩
  · rw [hi, hi']
  · exact absurd (hi' ▸ h.le i' hin') (by rw [hv]; exact not_le.mpr hv')
  · exact absurd (hi ▸ h'.le i hin) (by rw [hv']; exact not_le.mpr hv)
  · have e : v = v' := le_antisymm (hi ▸ h'.le i hin) (hi' ▸ h.le i' hin')
    rcases lt_trichotomy i i' with hl | hl | hl
    · exact absurd (hk' i hl) (by rw [hi, e]; exact lt_irrefl _)
    · exact hl
    · exact absurd (hk i' hl) (by rw [hi', e]; exact lt_irrefl _)

/-- Before any column the largest is `⊥`. -/
theorem Best.zero (A : ℕ → EReal) : Best A 0 ⊥ 0 := ⟨fun _ h => absurd h (Nat.not_lt_zero _), .inl ⟨rfl, rfl⟩⟩

/-- Columns that hold nothing larger change nothing. -/
theorem Best.keep {A : ℕ → EReal} {n n' : ℕ} {v : EReal} {i : ℕ} (h : Best A n v i) (hn : n ≤ n')
    (hle : ∀ k, n ≤ k → k < n' → A k ≤ v) : Best A n' v i := by
  refine ⟨fun k hk => ?_, h.first.imp id fun ⟨a, b, c, d⟩ => ⟨a, by omega, c, d⟩⟩
  by_cases hkn : k < n
  · exact h.le k hkn
  · exact hle k (by omega) hk

/-- Columns that hold something larger give the first place of their largest. -/
theorem Best.take {A : ℕ → EReal} {n n' : ℕ} {v M : EReal} {i i' : ℕ} (h : Best A n v i) (hM : v < M)
    (hle : ∀ k, n ≤ k → k < n' → A k ≤ M) (hin : i' < n') (hi : A i' = M)
    (hf : ∀ k, n ≤ k → k < i' → A k < M) : Best A n' M i' := by
  refine ⟨fun k hk => ?_, .inr ⟨bot_le.trans_lt hM, hin, hi, fun k hk => ?_⟩⟩
  · by_cases hkn : k < n
    · exact (h.le k hkn).trans hM.le
    · exact hle k (by omega) hk
  · by_cases hkn : k < n
    · exact (h.le k hkn).trans_lt hM
    · exact hf k (by omega) hk

/-- Entries `⊥` at the end may be left off. -/
theorem Best.cut {A : ℕ → EReal} {n n' : ℕ} {v : EReal} {i : ℕ} (h : Best A n' v i) (hn : n ≤ n') (hb : ∀ k, n ≤ k → A k = ⊥) : Best A n v i := by
  refine ⟨fun k hk => h.le k (by omega), h.first.imp id fun ⟨a, b, c, d⟩ => ⟨a, ?_, c, d⟩⟩
  by_contra hc
  rw [hb i (by omega)] at c
  exact absurd a (by rw [← c]; exact lt_irrefl _)

/-- The largest of a finite set's values and a start, as an upper bound that one of them attains. -/
theorem fold_max {ι : Type} [DecidableEq ι] (s : Finset ι) (f : ι → EReal) (b : EReal) :
    (∀ i ∈ s, f i ≤ s.fold max b f) ∧ (s.fold max b f = b ∨ ∃ i ∈ s, f i = s.fold max b f) := by
  induction s using Finset.induction_on with
  | empty => exact ⟨fun i h => absurd h (Finset.notMem_empty i), .inl rfl⟩
  | insert a s ha ih =>
    rw [Finset.fold_insert ha]
    refine ⟨fun i hi => ?_, ?_⟩
    · rcases Finset.mem_insert.mp hi with rfl | hi
      · exact le_max_left _ _
      · exact (ih.1 i hi).trans (le_max_right _ _)
    · rcases le_total (f a) (s.fold max b f) with hl | hl
      · rw [max_eq_right hl]
        exact ih.2.imp id fun ⟨i, hi, e⟩ => ⟨i, Finset.mem_insert_of_mem hi, e⟩
      · rw [max_eq_left hl]
        exact .inr ⟨a, Finset.mem_insert_self _ _, rfl⟩

/-- The signed minimum of two words is one of them. -/
theorem minsi_cases (a b : BitVec 32) :
    (IntOp.minsi a b = a ∧ a.toInt ≤ b.toInt) ∨ (IntOp.minsi a b = b ∧ b.toInt ≤ a.toInt) := by
  unfold IntOp.minsi
  by_cases h : a.slt b
  · exact .inl ⟨if_pos h, (BitVec.slt_iff_toInt_lt.mp h).le⟩
  · have : ¬ a.toInt < b.toInt := fun hc => h (BitVec.slt_iff_toInt_lt.mpr hc)
    exact .inr ⟨if_neg h, by omega⟩

/-- The signed minimum of a finite set's words and a start, as a lower bound that one of them attains. -/
theorem fold_min {ι : Type} [DecidableEq ι] (s : Finset ι) (f : ι → BitVec 32) (b : BitVec 32) :
    (∀ i ∈ s, (s.fold IKind.minsi.op b f).toInt ≤ (f i).toInt) ∧ (s.fold IKind.minsi.op b f = b ∨ ∃ i ∈ s, f i = s.fold IKind.minsi.op b f) := by
  induction s using Finset.induction_on with
  | empty => exact ⟨fun i h => absurd h (Finset.notMem_empty i), .inl rfl⟩
  | insert a s ha ih =>
    rw [Finset.fold_insert ha]
    rcases minsi_cases (f a) (s.fold IKind.minsi.op b f) with ⟨e, hl⟩ | ⟨e, hl⟩
    · rw [show IKind.minsi.op (f a) (s.fold IKind.minsi.op b f) = f a from e]
      refine ⟨fun i hi => ?_, .inr ⟨a, Finset.mem_insert_self _ _, rfl⟩⟩
      rcases Finset.mem_insert.mp hi with rfl | hi
      · exact le_rfl
      · exact hl.trans (ih.1 i hi)
    · rw [show IKind.minsi.op (f a) (s.fold IKind.minsi.op b f) = s.fold IKind.minsi.op b f from e]
      refine ⟨fun i hi => ?_, ih.2.imp id fun ⟨i, hi, e⟩ => ⟨i, Finset.mem_insert_of_mem hi, e⟩⟩
      rcases Finset.mem_insert.mp hi with rfl | hi
      · exact hl
      · exact ih.1 i hi

/-- A column number as a signed word. -/
theorem toInt_col (k : ℕ) (h : k < 2 ^ 31) : (BitVec.ofNat 32 k).toInt = k := by
  rw [BitVec.toInt_eq_toNat_of_lt (by rw [BitVec.toNat_ofNat]; omega), BitVec.toNat_ofNat]
  omega

end Cert.Own

end
-- ==== Proof.KernelIdeal.Value.lean ====
/-
  What the scan holds on the extended reals: after `n` tiles, of each row the largest of its first `4096 n` entries and the first column that holds it.
-/
module
public import proofs.«01_k».proof.Proof.Argmax
public import proofs.«01_k».proof.Proof.KernelIdeal.Tile
public import Idealize.ShloMosaic.Lib.ValueLayoutCasts

@[expose] public section

noncomputable section

namespace Cert.KernelIdeal.Own

open Cert.KernelIdeal Cert.KernelIdeal.Gen Cert.Own
open Idealize.ShloMosaic Idealize.ShloMosaic.TcCoe
open Idealize.ShloMosaic.ValueIdx (ix1 ix2 idx2_lt0 idx2_lt1 eq_ix2 shapeCast_a_a1_apply)

/-- Row `r` of `A`, `⊥` past its last column. -/
def row (A : Vec Ideal S64x1000000 .f32) (r : Fin 64) (k : ℕ) : EReal := if h : k < 1000000 then A (ix2 r ⟨k, h⟩) else ⊥

theorem row_past (A : Vec Ideal S64x1000000 .f32) (r : Fin 64) (k : ℕ) (h : 1000000 ≤ k) : row A r k = ⊥ :=
  dif_neg (by omega)

/-- The word of negative infinity reads `⊥`. -/
theorem neg_inf : (Scalar.ofBits .f32 0xFF800000#32 : Ideal .f32) = (⊥ : EReal) := by
  show Ideal.ofBits .f32 0xFF800000#32 = ⊥
  simp [Ideal.ofBits, Ideal.ieee]

/-- The masked tile is that stretch of the row. -/
theorem masked (A : Vec Ideal S64x1000000 .f32) (n : ℕ) (h : n < 245) (j : S64x4096.Idx) :
    k0_pay2 (F := Ideal) (tileAt n) (tile A n) j = row A (j 0) (n * 4096 + (j 1).val) := by
  rw [k0_pay2_apply n h]
  unfold row tile
  by_cases hc : n * 4096 + (j 1).val < 1000000
  · rw [if_pos hc, dif_pos hc, dif_pos hc]
  · rw [if_neg hc, dif_neg hc, neg_inf]

/-- The entries that a row's reduction ranges over are those of the row. -/
theorem drop_iff (i : S64x4096.Idx) (r : Fin 64) : reduces_S64x4096_S64.drop i = ix1 r ↔ i 0 = r := by
  have hv : (reduces_S64x4096_S64.drop i 0 : ℕ) = i 0 := Shape.Reduces.drop_apply_val_of_eq reduces_S64x4096_S64 i 0 0
  constructor
  · intro h
    rw [h] at hv
    exact Fin.ext hv.symm
  · intro h
    funext a
    match a with
    | ⟨0, _⟩ => exact Fin.ext (hv.trans (congrArg Fin.val h))

/-- The tile's maximum on row `r`. -/
theorem pay3_spec (A : Vec Ideal S64x1000000 .f32) (n : ℕ) (h : n < 245) (r : Fin 64) :
    (∀ k, n * 4096 ≤ k → k < (n + 1) * 4096 → row A r k ≤ k0_pay3 (F := Ideal) (tileAt n) (tile A n) (ix2 r 0))
    ∧ (k0_pay3 (F := Ideal) (tileAt n) (tile A n) (ix2 r 0) = (⊥ : EReal)
      ∨ ∃ k, n * 4096 ≤ k ∧ k < (n + 1) * 4096 ∧ row A r k = k0_pay3 (F := Ideal) (tileAt n) (tile A n) (ix2 r 0)) := by
  have e : k0_pay3 (F := Ideal) (tileAt n) (tile A n) (ix2 r 0)
      = (Finset.univ.filter fun i : S64x4096.Idx => reduces_S64x4096_S64.drop i = ix1 r).fold max (⊥ : EReal) (k0_pay2 (F := Ideal) (tileAt n) (tile A n)) := by
    unfold k0_pay3
    refine (shapeCast_a_a1_apply (a := 64) _ _ r 0).trans ?_
    refine (multiReduction_maximumf_eq_fold (F := Ideal) _ _ _ _ _ _).trans ?_
    rw [← neg_inf]
    rfl
  obtain ⟨hle, hat⟩ := fold_max (Finset.univ.filter fun i : S64x4096.Idx => reduces_S64x4096_S64.drop i = ix1 r)
    (k0_pay2 (F := Ideal) (tileAt n) (tile A n)) ⊥
  rw [← e] at hle hat
  refine ⟨fun k hk hk' => ?_, hat.imp id fun ⟨i, hi, he⟩ => ?_⟩
  · have := hle (ix2 r ⟨k - n * 4096, by omega⟩) (Finset.mem_filter.mpr ⟨Finset.mem_univ _, (drop_iff _ r).mpr rfl⟩)
    rw [masked A n h] at this
    rwa [show n * 4096 + (k - n * 4096) = k by omega] at this
  · have h0 := (drop_iff i r).mp (Finset.mem_filter.mp hi).2
    have h1 := idx2_lt1 i
    rw [masked A n h, h0] at he
    exact ⟨_, by omega, by omega, he⟩

/-- The column numbers that the second reduction ranges over: those that hold the tile's maximum, any other the largest word. -/
def cols (A : Vec Ideal S64x1000000 .f32) (n : ℕ) (i : S64x4096.Idx) : BitVec 32 :=
  if row A (i 0) (n * 4096 + (i 1).val) = k0_pay3 (F := Ideal) (tileAt n) (tile A n) (ix2 (i 0) 0) then BitVec.ofNat 32 (n * 4096 + (i 1).val)
  else 2147483647#32

/-- The first column of tile `n` that holds the tile's maximum, on row `r`. -/
def firstCol (A : Vec Ideal S64x1000000 .f32) (n : ℕ) (r : Fin 64) : BitVec 32 :=
  (Finset.univ.filter fun i : S64x4096.Idx => reduces_S64x4096_S64.drop i = ix1 r).fold IKind.minsi.op 2147483647#32 (cols A n)

/-- If some column of the tile holds the maximum, `firstCol` is the first such column. -/
theorem firstCol_spec (A : Vec Ideal S64x1000000 .f32) (n : ℕ) (h : n < 245) (r : Fin 64) (k : ℕ) (hk : n * 4096 ≤ k) (hk' : k < (n + 1) * 4096)
    (he : row A r k = k0_pay3 (F := Ideal) (tileAt n) (tile A n) (ix2 r 0)) :
    ∃ k', n * 4096 ≤ k' ∧ k' < (n + 1) * 4096 ∧ row A r k' = k0_pay3 (F := Ideal) (tileAt n) (tile A n) (ix2 r 0) ∧ firstCol A n r = BitVec.ofNat 32 k'
      ∧ ∀ l, n * 4096 ≤ l → l < k' → row A r l ≠ k0_pay3 (F := Ideal) (tileAt n) (tile A n) (ix2 r 0) := by
  obtain ⟨hle, hat⟩ := fold_min (Finset.univ.filter fun i : S64x4096.Idx => reduces_S64x4096_S64.drop i = ix1 r) (cols A n) 2147483647#32
  have low : ∀ l, n * 4096 ≤ l → l < (n + 1) * 4096 → row A r l = k0_pay3 (F := Ideal) (tileAt n) (tile A n) (ix2 r 0) → (firstCol A n r).toInt ≤ l := by
    intro l hl hl' hel
    have := hle (ix2 r ⟨l - n * 4096, by omega⟩) (Finset.mem_filter.mpr ⟨Finset.mem_univ _, (drop_iff _ r).mpr rfl⟩)
    have ec : cols A n (ix2 r ⟨l - n * 4096, by omega⟩) = BitVec.ofNat 32 l := by
      have el : n * 4096 + (l - n * 4096) = l := by omega
      show (if row A r (n * 4096 + (l - n * 4096)) = _ then BitVec.ofNat 32 (n * 4096 + (l - n * 4096)) else _) = _
      rw [el]
      exact if_pos hel
    rw [ec, toInt_col l (by omega)] at this
    exact this
  have big : (2147483647#32 : BitVec 32).toInt = 2147483647 := rfl
  have hlow := low k hk hk' he
  rcases hat with hb | ⟨i, hi, hei⟩
  · rw [show firstCol A n r = 2147483647#32 from hb, big] at hlow
    omega
  · have h0 := (drop_iff i r).mp (Finset.mem_filter.mp hi).2
    have h1 := idx2_lt1 i
    change cols A n i = firstCol A n r at hei
    unfold cols at hei
    rw [h0] at hei
    split at hei
    · next hc =>
      refine ⟨n * 4096 + (i 1).val, by omega, by omega, hc, hei.symm, fun l hl hl' hel => ?_⟩
      have := low l hl (by omega) hel
      rw [← hei, toInt_col _ (by omega)] at this
      omega
    · rw [← hei, big] at hlow
      omega

/-- A comparison's bit as a decision. -/
theorem ogt_iff (x y : Ideal .f32) : FloatOps.cmpf .ogt x y = 1#1 ↔ (y : EReal) < x := by
  show BitVec.ofBool (decide ((y : EReal) < x)) = 1#1 ↔ _
  by_cases hc : (y : EReal) < x <;> simp [hc]

theorem oeq_iff (x y : Ideal .f32) : FloatOps.cmpf .oeq x y = 1#1 ↔ (x : EReal) = y := by
  show BitVec.ofBool (decide ((x : EReal) = y)) = 1#1 ↔ _
  by_cases hc : (x : EReal) = y <;> simp [hc]

/-- The new running maximum, on row `r`. -/
theorem pay7_apply (A : Vec Ideal S64x1000000 .f32) (n : ℕ) (r : Fin 64) (vm : Vec Ideal S64x1 .f32) :
    k0_pay7 (F := Ideal) (tileAt n) (tile A n) vm (ix2 r 0)
      = if (vm (ix2 r 0) : EReal) < k0_pay3 (F := Ideal) (tileAt n) (tile A n) (ix2 r 0) then k0_pay3 (F := Ideal) (tileAt n) (tile A n) (ix2 r 0) else vm (ix2 r 0) := by
  unfold k0_pay7
  rw [shapeCast_self]
  show Scalar.select (FloatOps.cmpf .ogt (k0_pay3 (F := Ideal) (tileAt n) (tile A n) (ix2 r 0)) (vm (ix2 r 0))) _ _ = _
  unfold Scalar.select
  exact if_congr (ogt_iff _ _) rfl rfl

/-- The new column, on row `r`. -/
theorem pay8_apply (A : Vec Ideal S64x1000000 .f32) (n : ℕ) (h : n < 245) (r : Fin 64) (vm : Vec Ideal S64x1 .f32) (vi : Vec Ideal S64x1 .i32) :
    k0_pay8 (F := Ideal) (tileAt n) (tile A n) vm vi (ix2 r 0)
      = if (vm (ix2 r 0) : EReal) < k0_pay3 (F := Ideal) (tileAt n) (tile A n) (ix2 r 0) then firstCol A n r else vi (ix2 r 0) := by
  unfold k0_pay8
  rw [shapeCast_self]
  show Scalar.select (FloatOps.cmpf .ogt (k0_pay3 (F := Ideal) (tileAt n) (tile A n) (ix2 r 0)) (vm (ix2 r 0))) _ _ = _
  unfold Scalar.select
  refine if_congr (ogt_iff _ _) ?_ rfl
  refine (shapeCast_a_a1_apply (a := 64) _ _ r 0).trans ?_
  refine (multiReductionI_eq_fold _ _ _ _ _ _).trans ?_
  unfold firstCol
  refine Finset.fold_congr fun i _ => ?_
  show Scalar.select (FloatOps.cmpf .oeq (k0_pay2 (F := Ideal) (tileAt n) (tile A n) i) (k0_pay3 (F := Ideal) (tileAt n) (tile A n) (ix2 (i 0) 0))) (k0_pay1 (tileAt n) i) 2147483647#32 = _
  unfold Scalar.select cols
  refine if_congr ((oeq_iff _ _).trans ?_) (k0_pay1_apply n h i) rfl
  rw [masked A n h]

theorem scan_succ (A : Vec Ideal S64x1000000 .f32) (n : ℕ) :
    scan A (n + 1) = (k0_pay7 (tileAt n) (tile A n) (scan A n).1, k0_pay8 (tileAt n) (tile A n) (scan A n).1 (scan A n).2) := rfl

/-- After `n` tiles the scan holds the row's largest entry and the first column that holds it. -/
theorem scan_best (A : Vec Ideal S64x1000000 .f32) (r : Fin 64) (n : ℕ) (h : n ≤ 245) :
    ∃ i : ℕ, Best (row A r) (n * 4096) ((scan A n).1 (ix2 r 0) : EReal) i ∧ (scan A n).2 (ix2 r 0) = BitVec.ofNat 32 i := by
  induction n with
  | zero =>
    refine ⟨0, ?_, ?_⟩
    · have e : ((scan A 0).1 (ix2 r 0) : EReal) = ⊥ := by
        show (k0_pay4 (F := Ideal) (ix2 r 0) : EReal) = ⊥
        unfold k0_pay4
        rw [shapeCast_self]
        exact neg_inf
      rw [e, Nat.zero_mul]
      exact Best.zero _
    · show k0_pay5 (ix2 r 0) = _
      unfold k0_pay5
      rw [shapeCast_self]
      rfl
  | succ n ih =>
    obtain ⟨i, hb, hi⟩ := ih (by omega)
    obtain ⟨hle, hat⟩ := pay3_spec A n (by omega) r
    rw [scan_succ]
    dsimp only
    rw [pay7_apply, pay8_apply A n (by omega)]
    by_cases hc : ((scan A n).1 (ix2 r 0) : EReal) < k0_pay3 (F := Ideal) (tileAt n) (tile A n) (ix2 r 0)
    · rw [if_pos hc, if_pos hc]
      rcases hat with hbot | ⟨k, hk, hk', he⟩
      · exact absurd hc (by rw [hbot]; exact not_lt_bot)
      · obtain ⟨k', h1, h2, h3, h4, h5⟩ := firstCol_spec A n (by omega) r k hk hk' he
        exact ⟨k', hb.take hc hle h2 h3 fun l hl hl' => lt_of_le_of_ne (hle l hl (by omega)) (h5 l hl hl'), h4⟩
    · rw [if_neg hc, if_neg hc]
      exact ⟨i, hb.keep (by omega) fun k hk hk' => (hle k hk hk').trans (not_lt.mp hc), hi⟩

/-- The token of row `r` is its argmax. -/
theorem tok_best (A : Vec Ideal S64x1000000 .f32) (r : Fin 64) :
    ∃ (v : EReal) (i : ℕ), Best (row A r) 1000000 v i ∧ tok A (ix2 r 0) = BitVec.ofNat 32 i := by
  obtain ⟨i, hb, hi⟩ := scan_best A r 245 le_rfl
  exact ⟨_, i, hb.cut (by omega) (row_past A r), hi⟩

end Cert.KernelIdeal.Own

end
-- ==== Proof.Agree.lean ====
/-
  On the extended reals the two programs' results are equal: both give each row the first column of its largest entry, and the one-hot matrix of it.
-/
module
public import proofs.«01_k».proof.Proof.KernelIdeal.Value
public import proofs.«01_k».proof.Proof.KernelIdeal.Region1
public import proofs.«01_k».proof.Proof.ReferenceIdeal.Run

@[expose] public section

noncomputable section

namespace Cert.Own

open Idealize.ShloMosaic Idealize.ShloMosaic.TcCoe
open Idealize.ShloMosaic.ValueIdx (ix1 ix2 idx2_lt0 idx2_lt1 eq_ix2 shapeCast_a_a1_apply)
open Cert.ReferenceIdeal (S64 S64x1 S1x1000000 S64x1000000 S_ reducer_argmax_f32_i32)
open Cert.ReferenceIdeal.Gen (reducesTo_S64x1000000_S64_d1 h_S_)
open Cert.ReferenceIdeal.Own (best onehot pairs)
open Cert.KernelIdeal.Own (row tok hot tok_best ogt_iff oeq_iff neg_inf)

/-- The pair `r` of a value and a column is at least as good as `p`: larger, or as large and no later. -/
def Beats (r p : Ideal .f32 × BitVec 32) : Prop := (p.1 : EReal) ≤ r.1 ∧ ((p.1 : EReal) = r.1 → r.2.toInt ≤ p.2.toInt)

theorem Beats.refl (r : Ideal .f32 × BitVec 32) : Beats r r := ⟨le_rfl, fun _ => le_rfl⟩

theorem Beats.trans {r p q : Ideal .f32 × BitVec 32} (h : Beats r p) (h' : Beats p q) : Beats r q := by
  refine ⟨h'.1.trans h.1, fun e => ?_⟩
  have e1 : (q.1 : EReal) = p.1 := le_antisymm h'.1 (e ▸ h.1)
  exact (h.2 (e1.symm.trans e)).trans (h'.2 e1)

/-- The reducer keeps one of its two pairs, the one that is at least as good as both. -/
theorem reducer_spec (a b : Ideal .f32 × BitVec 32) :
    Beats (reducer_argmax_f32_i32 a b) a ∧ Beats (reducer_argmax_f32_i32 a b) b ∧ (reducer_argmax_f32_i32 a b = a ∨ reducer_argmax_f32_i32 a b = b) := by
  obtain ⟨x, i⟩ := a
  obtain ⟨y, j⟩ := b
  have hn : FloatOps.cmpf .une x x = 0#1 := by
    show BitVec.ofBool (decide ((x : EReal) ≠ x)) = 0#1
    simp
  unfold reducer_argmax_f32_i32
  dsimp only
  rw [hn]
  rcases lt_trichotomy (x : EReal) y with h | h | h
  · have h1 : FloatOps.cmpf .ogt x y = 0#1 :=
      congrArg BitVec.ofBool (decide_eq_false (not_lt.mpr h.le))
    have h2 : FloatOps.cmpf .oeq x y = 0#1 :=
      congrArg BitVec.ofBool (decide_eq_false h.ne)
    rw [h1, h2]
    have e : ∀ c : BitVec 1, IntOp.ori (IntOp.ori 0#1 0#1) (IntOp.andi 0#1 c) = 0#1 := by decide
    rw [e]
    exact ⟨⟨h.le, fun e => absurd e h.ne⟩, Beats.refl _, .inr rfl⟩
  · have h1 : FloatOps.cmpf .ogt x y = 0#1 :=
      congrArg BitVec.ofBool (decide_eq_false (not_lt.mpr h.le))
    have h2 : FloatOps.cmpf .oeq x y = 1#1 := (oeq_iff _ _).mpr h
    rw [h1, h2]
    subst h
    by_cases hc : i.slt j
    · have hl := BitVec.slt_iff_toInt_lt.mp hc
      have e : IntOp.cmpi .slt i j = 1#1 := by
        show BitVec.ofBool (i.slt j) = 1#1
        rw [hc]; rfl
      rw [e]
      exact ⟨Beats.refl _, ⟨le_rfl, fun _ => hl.le⟩, .inl rfl⟩
    · have hl : ¬ i.toInt < j.toInt := fun h => hc (BitVec.slt_iff_toInt_lt.mpr h)
      have e : IntOp.cmpi .slt i j = 0#1 := by
        show BitVec.ofBool (i.slt j) = 0#1
        rw [Bool.eq_false_iff.mpr hc]; rfl
      rw [e]
      exact ⟨⟨le_rfl, fun _ => not_lt.mp hl⟩, Beats.refl _, .inr rfl⟩
  · have h1 : FloatOps.cmpf .ogt x y = 1#1 := (ogt_iff _ _).mpr h
    rw [h1]
    have e : ∀ c : BitVec 1, IntOp.ori (IntOp.ori 1#1 0#1) c = 1#1 := by decide
    rw [e]
    exact ⟨Beats.refl _, ⟨h.le, fun e => absurd e h.ne⟩, .inl rfl⟩

/-- Folding the reducer over a list gives one of the pairs met, as good as each of them. -/
theorem foldl_spec (l : List (Ideal .f32 × BitVec 32)) (a : Ideal .f32 × BitVec 32) :
    Beats (l.foldl reducer_argmax_f32_i32 a) a ∧ (∀ p ∈ l, Beats (l.foldl reducer_argmax_f32_i32 a) p)
      ∧ (l.foldl reducer_argmax_f32_i32 a = a ∨ l.foldl reducer_argmax_f32_i32 a ∈ l) := by
  induction l generalizing a with
  | nil => exact ⟨Beats.refl _, fun _ h => absurd h (List.not_mem_nil), .inl rfl⟩
  | cons b l ih =>
    obtain ⟨h1, h2, h3⟩ := ih (reducer_argmax_f32_i32 a b)
    obtain ⟨ra, rb, rc⟩ := reducer_spec a b
    rw [List.foldl_cons]
    refine ⟨h1.trans ra, fun p hp => ?_, ?_⟩
    · rcases List.mem_cons.mp hp with rfl | hp
      · exact h1.trans rb
      · exact h2 p hp
    · rcases h3 with e | hm
      · rw [e]
        rcases rc with e' | e' <;> rw [e']
        · exact .inl rfl
        · exact .inr List.mem_cons_self
      · exact .inr (List.mem_cons_of_mem _ hm)

/-- The entries that a row's reduction ranges over are those of the row. -/
theorem drop_iff (i : S64x1000000.Idx) (r : Fin 64) : reducesTo_S64x1000000_S64_d1.drop i = ix1 r ↔ i 0 = r := by
  have hv : (reducesTo_S64x1000000_S64_d1.drop i 0 : ℕ) = i 0 := Shape.ReducesTo.drop_apply_val_of_eq reducesTo_S64x1000000_S64_d1 i 0 0
  constructor
  · intro h
    rw [h] at hv
    exact Fin.ext hv.symm
  · intro h
    funext a
    match a with
    | ⟨0, _⟩ => exact Fin.ext (hv.trans (congrArg Fin.val h))

/-- The pairs that the reference folds over on row `r`: every entry with its column's number. -/
theorem mem_fiber (A : FVec Ideal S64x1000000 .f32) (r : Fin 64) (p : Ideal .f32 × BitVec 32) :
    p ∈ Host.argReduceFiber A (iotaInDim S64x1000000 32 1) reducesTo_S64x1000000_S64_d1 (ix1 r)
      ↔ ∃ k : ℕ, k < 1000000 ∧ (p.1 : EReal) = row A r k ∧ p.2 = BitVec.ofNat 32 k := by
  unfold Host.argReduceFiber
  rw [List.mem_map]
  constructor
  · rintro ⟨n, hn, rfl⟩
    have h0 := (drop_iff _ r).mp (of_decide_eq_true (List.mem_filter.mp hn).2)
    generalize S64x1000000.rowMajor.symm n = i at h0
    have h1 := idx2_lt1 i
    refine ⟨(i 1).val, h1, ?_, rfl⟩
    unfold Cert.KernelIdeal.Own.row
    rw [dif_pos h1, ← h0]
    exact congrArg A (eq_ix2 i)
  · rintro ⟨k, hk, e1, e2⟩
    refine ⟨S64x1000000.rowMajor (ix2 r ⟨k, hk⟩), List.mem_filter.mpr ⟨List.mem_finRange _, decide_eq_true ?_⟩, ?_⟩
    · rw [Equiv.symm_apply_apply]
      exact (drop_iff _ r).mpr rfl
    · rw [Equiv.symm_apply_apply]
      refine Prod.ext ?_ e2.symm
      rw [e1]
      unfold Cert.KernelIdeal.Own.row
      rw [dif_pos hk]

/-- Folding the reducer, from `⊥` at column 0, over a list of a row's entries with their columns' numbers gives the row's argmax. -/
theorem foldl_best (R : ℕ → EReal) (l : List (Ideal .f32 × BitVec 32))
    (hl : ∀ p : Ideal .f32 × BitVec 32, p ∈ l ↔ ∃ k : ℕ, k < 1000000 ∧ (p.1 : EReal) = R k ∧ p.2 = BitVec.ofNat 32 k)
    (a : Ideal .f32 × BitVec 32) (ha : (a.1 : EReal) = ⊥) (ha' : a.2 = 0#32) :
    ∃ (v : EReal) (i : ℕ), Best R 1000000 v i ∧ (l.foldl reducer_argmax_f32_i32 a).2 = BitVec.ofNat 32 i := by
  obtain ⟨h1, h2, h3⟩ := foldl_spec l a
  generalize l.foldl reducer_argmax_f32_i32 a = p at h1 h2 h3
  have hp : ∀ k < 1000000, Beats p ((R k : EReal), BitVec.ofNat 32 k) := fun k hk => h2 _ ((hl _).mpr ⟨k, hk, rfl, rfl⟩)
  by_cases hb : (p.1 : EReal) = ⊥
  · refine ⟨⊥, 0, ⟨fun k hk => hb ▸ (hp k hk).1, .inl ⟨rfl, rfl⟩⟩, ?_⟩
    have hz : p.2.toInt ≤ a.2.toInt := h1.2 (ha.trans hb.symm)
    rw [ha', show (0#32 : BitVec 32).toInt = 0 from rfl] at hz
    rcases h3 with e | hm
    · rw [e, ha']
    · obtain ⟨k, hk, -, ek⟩ := (hl p).mp hm
      rw [ek, toInt_col k (by omega)] at hz
      rw [ek, show k = 0 by omega]
  · rcases h3 with e | hm
    · exact absurd ((congrArg Prod.fst e).trans ha) hb
    · obtain ⟨k, hk, ev, ek⟩ := (hl p).mp hm
      refine ⟨p.1, k, ⟨fun l hl => (hp l hl).1, .inr ⟨bot_lt_iff_ne_bot.mpr hb, hk, ev.symm, fun l hl => ?_⟩⟩, ek⟩
      refine lt_of_le_of_ne (hp l (by omega)).1 fun hel => ?_
      have := (hp l (by omega)).2 hel
      rw [ek, toInt_col k (by omega), toInt_col l (by omega)] at this
      omega

/-- The reference's reduction is the plain fold: no extended real differs from itself. -/
theorem pairs_eq (A : FVec Ideal S64x1000000 .f32) :
    pairs A = Host.reduce2 reducer_argmax_f32_i32 A (iotaInDim S64x1000000 32 1) (constant S_ .f32 0xFF800000#32) (constantI S_ 32 0#32)
      reducesTo_S64x1000000_S64_d1 h_S_ :=
  Ideal.argReduce_eq_reduce2 _ _ _ _ _ _ _

theorem best_fun (A : FVec Ideal S64x1000000 .f32) : best A = fun j => (pairs A j).2 := rfl

/-- The reference's index of row `r` as that fold. -/
theorem best_eq (A : FVec Ideal S64x1000000 .f32) (r : Fin 64) :
    best A (ix1 r) = ((Host.argReduceFiber A (iotaInDim S64x1000000 32 1) reducesTo_S64x1000000_S64_d1 (ix1 r)).foldl reducer_argmax_f32_i32
      (constant (F := Ideal) S_ .f32 0xFF800000#32 (Shape.Idx.first h_S_), constantI S_ 32 0#32 (Shape.Idx.first h_S_))).2 :=
  (congrFun (best_fun A) (ix1 r)).trans
    (congrArg Prod.snd ((congrFun (pairs_eq A) (ix1 r)).trans (Host.reduce2_eq_foldl_fiber _ _ _ _ _ _ _ _)))

/-- The reference's index of row `r` is its argmax. -/
theorem best_best (A : FVec Ideal S64x1000000 .f32) (r : Fin 64) :
    ∃ (v : EReal) (i : ℕ), Best (row A r) 1000000 v i ∧ best A (ix1 r) = BitVec.ofNat 32 i := by
  obtain ⟨v, i, hb, e⟩ := foldl_best (row A r) _ (mem_fiber A r) (constant (F := Ideal) S_ .f32 0xFF800000#32 (Shape.Idx.first h_S_), constantI S_ 32 0#32 (Shape.Idx.first h_S_))
    neg_inf rfl
  exact ⟨v, i, hb, (best_eq A r).trans e⟩

/-- The two programs find the same columns. -/
theorem tok_eq_best (A : FVec Ideal S64x1000000 .f32) (r : Fin 64) : tok (F := Ideal) A (ix2 r 0) = best A (ix1 r) := by
  obtain ⟨v, i, h, e⟩ := tok_best A r
  obtain ⟨v', i', h', e'⟩ := best_best A r
  rw [e, e', h.unique h']

/-- The first result. -/
theorem tokens_eq (A : FVec Ideal S64x1000000 .f32) (h : S64x1.ShapeCasts S64) : shapeCast S64 (tok (F := Ideal) A) h = best A := by
  have key : ∀ r : Fin 64, shapeCast S64 (tok (F := Ideal) A) h (ix1 r) = best A (ix1 r) := by
    intro r
    refine (shapeCast_apply (tok (F := Ideal) A) h (ix1 r) (ix2 r 0) ?_).trans (tok_eq_best A r)
    rw [Shape.rowMajor_val_two, Shape.rowMajor_val_one]
    show r.val * 1 + 0 = r.val
    omega
  funext j
  have hj : j = ix1 (n := 64) (j 0) := by
    funext a
    match a with
    | ⟨0, _⟩ => rfl
  rw [hj]
  exact key (j 0)

/-- The one-hot matrix at an index. -/
theorem onehot_apply (T : IVec S64 32) (i : S64x1000000.Idx) :
    onehot (F := Ideal) T i = FloatOps.uitofp (F := Ideal) .f32 (IntOp.cmpi .eq (T (ix1 (i 0))) (BitVec.ofNat 32 (i 1).val)) := by
  unfold Cert.ReferenceIdeal.Own.onehot
  show FloatOps.uitofp (F := Ideal) .f32 (IntOp.cmpi .eq (T _) (BitVec.ofNat 32 (i 1).val)) = _
  refine congrArg (fun k => FloatOps.uitofp (F := Ideal) .f32 (IntOp.cmpi .eq (T k) (BitVec.ofNat 32 (i 1).val))) (funext fun a => ?_)
  match a with
  | ⟨0, _⟩ => rfl

/-- The second result. -/
theorem hot_eq (A : FVec Ideal S64x1000000 .f32) : hot (tok (F := Ideal) A) = onehot (F := Ideal) (best A) := by
  funext i
  rw [onehot_apply, ← tok_eq_best A (i 0)]
  unfold Cert.KernelIdeal.Own.hot
  generalize tok (F := Ideal) A (ix2 (i 0) 0) = x
  generalize BitVec.ofNat 32 (i 1).val = y
  have one : (Scalar.ofBits .f32 0x3F800000#32 : Ideal .f32) = (1 : EReal) := by
    show Ideal.ofBits .f32 0x3F800000#32 = 1
    simp [Ideal.ofBits, Ideal.ieee, -EReal.coe_mul]; norm_num
  have zero : (Scalar.ofBits .f32 0x00000000#32 : Ideal .f32) = (0 : EReal) := by
    show Ideal.ofBits .f32 0x00000000#32 = 0
    simp [Ideal.ofBits, Ideal.ieee]
  rw [one, zero]
  by_cases hc : x = y
  · have e1 : IntOp.cmpi .eq y x = 1#1 := by subst hc; simp [IntOp.cmpi]
    have e2 : IntOp.cmpi .eq x y = 1#1 := by subst hc; simp [IntOp.cmpi]
    rw [e1, e2]
    show (1 : EReal) = (((1#1 : BitVec 1).toNat : ℝ) : EReal)
    simp
  · have e1 : IntOp.cmpi .eq y x = 0#1 := congrArg BitVec.ofBool (beq_eq_false_iff_ne.mpr (Ne.symm hc))
    have e2 : IntOp.cmpi .eq x y = 0#1 := congrArg BitVec.ofBool (beq_eq_false_iff_ne.mpr hc)
    rw [e1, e2]
    show (0 : EReal) = (((0#1 : BitVec 1).toNat : ℝ) : EReal)
    simp

end Cert.Own

end
-- ==== Proof.lean ====
/-
  The proof of `Cert.Claim`.

  Both programs' runs of the kernel are one exact run, proved for any float values (`Own.run_main`): what it leaves is a scan over the operand's column tiles. On the extended reals that scan finds each
  row's first largest entry (Proof/KernelIdeal/Value.lean), the reference's reduction finds the same (Proof/Agree.lean), and both one-hot matrices follow.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Kernel.Run
public import proofs.«01_k».proof.Proof.KernelIdeal.Run
public import proofs.«01_k».proof.Proof.ReferenceIdeal.Run
public import proofs.«01_k».proof.Proof.Agree
public import Idealize.ShloMosaic.Adequacy
public import Idealize.ShloMosaic.Init

@[expose] public section

noncomputable section

namespace Cert.Proof

open Idealize.ShloMosaic Idealize.ShloMosaic.TcCoe Idealize.SL.Sem

/-- The kernel as printed. -/
theorem frame_kernel : Cert.quiescent_Kernel := fun m g _ =>
  (θ_run Cert.Kernel.defs _ _).mono (fun _ h => ⟨fun c => ⟨(h.1 c).2.2.1, (h.1 c).2.2.2⟩, h.2⟩) (Cert.Kernel.Own.run_main (F := Bits) m g)

/-- The kernel on the extended reals. -/
theorem frame_kernelIdeal : Cert.quiescent_KernelIdeal := fun m g _ =>
  (θ_run Cert.KernelIdeal.defs _ _).mono (fun _ h => ⟨fun c => ⟨(h.1 c).2.2.1, (h.1 c).2.2.2⟩, h.2⟩) (Cert.KernelIdeal.Own.run_main (F := Ideal) m g)

/-- The reference, which has no semaphore. -/
theorem frame_referenceIdeal : Cert.quiescent_ReferenceIdeal := fun m g _ =>
  (θ_run Cert.ReferenceIdeal.defs _ _).mono (fun r h => ⟨fun c => ⟨(h c).2.2.1, (h c).2.2.2⟩, sem_eq_zero_of_no_sems (by decide) r.2⟩)
    (Cert.ReferenceIdeal.Own.run_main (F := Ideal) m g)

/-- Both results agree: the shared values are the reference's, of the kernel's operand. -/
theorem algebraic : Cert.algebraic_KernelIdeal_ReferenceIdeal := by
  intro m g m' g' _ hagree
  refine ⟨fun c => Cert.ReferenceIdeal.Own.best (F := Ideal) (m ((c.tc : Thread Cert.KernelIdeal.nD Cert.KernelIdeal.τ).loc Cert.KernelIdeal.main_arg0)),
    fun c => Cert.ReferenceIdeal.Own.onehot (F := Ideal) (Cert.ReferenceIdeal.Own.best (F := Ideal) (m ((c.tc : Thread Cert.KernelIdeal.nD Cert.KernelIdeal.τ).loc Cert.KernelIdeal.main_arg0))), ?_, ?_⟩
  · exact (θ_run Cert.KernelIdeal.defs _ _).mono
      (fun _ h c => ⟨((h.1 c).1).trans (Cert.Own.tokens_eq _ _), ((h.1 c).2.1).trans (Cert.Own.hot_eq _), (h.1 c).2.2.1, (h.1 c).2.2.2⟩)
      (Cert.KernelIdeal.Own.run_main (F := Ideal) m g)
  · refine (θ_run Cert.ReferenceIdeal.defs _ _).mono (fun _ h c => ⟨((h c).1).trans ?_, ((h c).2.1).trans ?_, (h c).2.2.1, (h c).2.2.2⟩)
      (Cert.ReferenceIdeal.Own.run_main (F := Ideal) m' g')
    · exact congrArg (Cert.ReferenceIdeal.Own.best (F := Ideal)) (hagree c).1
    · exact congrArg (fun A => Cert.ReferenceIdeal.Own.onehot (F := Ideal) (Cert.ReferenceIdeal.Own.best (F := Ideal) A)) (hagree c).1

theorem claim : Cert.Claim :=
  ⟨Cert.Kernel.Gen.facts, Cert.KernelIdeal.Gen.facts, Cert.ReferenceIdeal.Gen.facts,
    frame_kernel, frame_kernelIdeal, frame_referenceIdeal, trivial, algebraic⟩

end Cert.Proof

end
